-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_increasing [hPre_increasing : Cert.Pre_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_increasing [hPre_increasing : Cert.Pre_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_increasing [hKernelIdeal : Cert.KernelIdeal.Facts] [hPre_increasing : Cert.Pre_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_increasing [hReferenceIdeal : Cert.ReferenceIdeal.Facts] [hPre_increasing : Cert.Pre_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_increasing [hKernelIdeal : Cert.KernelIdeal.Facts] [hReferenceIdeal : Cert.ReferenceIdeal.Facts] [hPre_increasing : Cert.Pre_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_increasing : Cert.Pre_increasing.Facts),
    quiescent_Kernel (hKernel := hKernel)
    ∧ quiescent_KernelIdeal (hKernelIdeal := hKernelIdeal)
    ∧ quiescent_KernelIdeal_pre_increasing (hKernelIdeal := hKernelIdeal) (hPre_increasing := hPre_increasing)
    ∧ quiescent_ReferenceIdeal (hReferenceIdeal := hReferenceIdeal)
    ∧ quiescent_ReferenceIdeal_pre_increasing (hReferenceIdeal := hReferenceIdeal) (hPre_increasing := hPre_increasing)
    ∧ preserves_Kernel_KernelIdeal
    ∧ algebraic_KernelIdeal_ReferenceIdeal_pre_increasing (hKernelIdeal := hKernelIdeal) (hReferenceIdeal := hReferenceIdeal) (hPre_increasing := hPre_increasing)
-- ==== Pre_increasing.lean ====
abbrev S2x3072x3840 : Shape := ⟨3, ![2, 3072, 3840]⟩
abbrev S128 : Shape := ⟨1, ![128]⟩
abbrev S1536x128 : Shape := ⟨2, ![1536, 128]⟩
abbrev S1536x3840 : Shape := ⟨2, ![1536, 3840]⟩
abbrev S12x30 : Shape := ⟨2, ![12, 30]⟩
abbrev S127 : Shape := ⟨1, ![127]⟩

class Facts : Prop where
  slices_S128_S127_0 : S128.Slices ![0] S127
  slices_S128_S127_1 : S128.Slices ![1] S127

variable [Facts]

def fn {F : FTy → Type} [FloatOps F] (main_arg0 : FVec F S2x3072x3840 .bf16) (main_arg1 : IVec S128 32) (main_arg2 : FVec F S1536x128 .bf16) (main_arg3 : FVec F S1536x3840 .fp8e4m3) (main_arg4 : FVec F S12x30 .f32) : IVec S127 1 :=
  let main_v0 : IVec S127 32 := (extractStridedSlice S127 ![0] · slices_S128_S127_0) main_arg1
  let main_v1 : IVec S127 32 := (extractStridedSlice S127 ![1] · slices_S128_S127_1) main_arg1
  let main_v2 : IVec S127 1 := cmpi .slt main_v0 main_v1
  main_v2
-- ==== Kernel.lean ====
abbrev S2x3072x3840 : Shape := ⟨3, ![2, 3072, 3840]⟩
abbrev S128 : Shape := ⟨1, ![128]⟩
abbrev S1536x128 : Shape := ⟨2, ![1536, 128]⟩
abbrev S1536x3840 : Shape := ⟨2, ![1536, 3840]⟩
abbrev S12x30 : Shape := ⟨2, ![12, 30]⟩
abbrev S6144x3840 : Shape := ⟨2, ![6144, 3840]⟩
abbrev S1x128 : Shape := ⟨2, ![1, 128]⟩
abbrev S6144x1536 : Shape := ⟨2, ![6144, 1536]⟩
abbrev S6144x30 : Shape := ⟨2, ![6144, 30]⟩
abbrev S512x3840 : Shape := ⟨2, ![512, 3840]⟩
abbrev S512x1536 : Shape := ⟨2, ![512, 1536]⟩
abbrev S512x30 : Shape := ⟨2, ![512, 30]⟩
abbrev S1x3840 : Shape := ⟨2, ![1, 3840]⟩
abbrev S128x128 : Shape := ⟨2, ![128, 128]⟩
abbrev S1x1 : Shape := ⟨2, ![1, 1]⟩
abbrev S128x128x1 : Shape := ⟨3, ![128, 128, 1]⟩
abbrev S512x128 : Shape := ⟨2, ![512, 128]⟩
abbrev S512 : Shape := ⟨1, ![512]⟩
abbrev S512x1 : Shape := ⟨2, ![512, 1]⟩
abbrev S256x3840 : Shape := ⟨2, ![256, 3840]⟩
abbrev S512x256 : Shape := ⟨2, ![512, 256]⟩

abbrev nBuf : Space → Nat
  | .hbm => 10
  | .vmem => 14
  | .smem => 1
  | _ => 0

abbrev bufTy : (tb : Table) → Fin (tcTables nBuf tb) → BufTy
  | .hbm, ⟨0, _⟩ => ⟨S2x3072x3840, .bf16⟩
  | .hbm, ⟨1, _⟩ => ⟨S128, .i32⟩
  | .hbm, ⟨2, _⟩ => ⟨S1536x128, .bf16⟩
  | .hbm, ⟨3, _⟩ => ⟨S1536x3840, .fp8e4m3⟩
  | .hbm, ⟨4, _⟩ => ⟨S12x30, .f32⟩
  | .hbm, ⟨5, _⟩ => ⟨S6144x3840, .bf16⟩
  | .hbm, ⟨6, _⟩ => ⟨S1x128, .i32⟩
  | .hbm, ⟨7, _⟩ => ⟨S6144x1536, .bf16⟩
  | .hbm, ⟨8, _⟩ => ⟨S6144x3840, .fp8e4m3⟩
  | .hbm, ⟨9, _⟩ => ⟨S6144x30, .f32⟩
  | .local _ .vmem, ⟨0, _⟩ => ⟨S512x3840, .bf16⟩
  | .local _ .vmem, ⟨1, _⟩ => ⟨S512x3840, .bf16⟩
  | .local _ .vmem, ⟨2, _⟩ => ⟨S1x128, .i32⟩
  | .local _ .vmem, ⟨3, _⟩ => ⟨S1536x128, .bf16⟩
  | .local _ .vmem, ⟨4, _⟩ => ⟨S1536x3840, .fp8e4m3⟩
  | .local _ .vmem, ⟨5, _⟩ => ⟨S512x1536, .bf16⟩
  | .local _ .vmem, ⟨6, _⟩ => ⟨S512x1536, .bf16⟩
  | .local _ .vmem, ⟨7, _⟩ => ⟨S512x3840, .fp8e4m3⟩
  | .local _ .vmem, ⟨8, _⟩ => ⟨S512x3840, .fp8e4m3⟩
  | .local _ .vmem, ⟨9, _⟩ => ⟨S512x30, .f32⟩
  | .local _ .vmem, ⟨10, _⟩ => ⟨S512x30, .f32⟩
  | .local _ .vmem, ⟨11, _⟩ => ⟨S1x3840, .i32⟩
  | .local _ .vmem, ⟨12, _⟩ => ⟨S1536x3840, .bf16⟩
  | .local _ .vmem, ⟨13, _⟩ => ⟨S512x3840, .bf16⟩
  | .local _ .smem, ⟨0, _⟩ => ⟨S12x30, .f32⟩
  | _, _ => ⟨S2x3072x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x3840 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S12x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3840 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x30 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x3072x3840 : Shape := ⟨3, ![2, 3072, 3840]⟩
abbrev S128 : Shape := ⟨1, ![128]⟩
abbrev S1536x128 : Shape := ⟨2, ![1536, 128]⟩
abbrev S1536x3840 : Shape := ⟨2, ![1536, 3840]⟩
abbrev S12x30 : Shape := ⟨2, ![12, 30]⟩
abbrev S6144x3840 : Shape := ⟨2, ![6144, 3840]⟩
abbrev S128x1 : Shape := ⟨2, ![128, 1]⟩
abbrev S6144x1536 : Shape := ⟨2, ![6144, 1536]⟩
abbrev S6144x30 : Shape := ⟨2, ![6144, 30]⟩
abbrev S128x3840 : Shape := ⟨2, ![128, 3840]⟩
abbrev S3840 : Shape := ⟨1, ![3840]⟩
abbrev S1x3840 : Shape := ⟨2, ![1, 3840]⟩
abbrev S6144x30x128 : Shape := ⟨3, ![6144, 30, 128]⟩
abbrev S6144x30x1 : Shape := ⟨3, ![6144, 30, 1]⟩
abbrev S1x1x246 : Shape := ⟨3, ![1, 1, 246]⟩
abbrev S6144x30x246 : Shape := ⟨3, ![6144, 30, 246]⟩
abbrev S30x3840 : Shape := ⟨2, ![30, 3840]⟩
abbrev S12x1x30x1 : Shape := ⟨4, ![12, 1, 30, 1]⟩
abbrev S12x128x30x128 : Shape := ⟨4, ![12, 128, 30, 128]⟩

abbrev nBuf : Space → Nat
  | .hbm => 10
  | .vmem => 8
  | .smem => 0
  | _ => 0

abbrev bufTy : (tb : Table) → Fin (tcTables nBuf tb) → BufTy
  | .hbm, ⟨0, _⟩ => ⟨S2x3072x3840, .bf16⟩
  | .hbm, ⟨1, _⟩ => ⟨S128, .i32⟩
  | .hbm, ⟨2, _⟩ => ⟨S1536x128, .bf16⟩
  | .hbm, ⟨3, _⟩ => ⟨S1536x3840, .fp8e4m3⟩
  | .hbm, ⟨4, _⟩ => ⟨S12x30, .f32⟩
  | .hbm, ⟨5, _⟩ => ⟨S6144x3840, .bf16⟩
  | .hbm, ⟨6, _⟩ => ⟨S128x1, .i32⟩
  | .hbm, ⟨7, _⟩ => ⟨S6144x1536, .bf16⟩
  | .hbm, ⟨8, _⟩ => ⟨S6144x3840, .fp8e4m3⟩
  | .hbm, ⟨9, _⟩ => ⟨S6144x30, .f32⟩
  | .local _ .vmem, ⟨0, _⟩ => ⟨S6144x3840, .bf16⟩
  | .local _ .vmem, ⟨1, _⟩ => ⟨S128x1, .i32⟩
  | .local _ .vmem, ⟨2, _⟩ => ⟨S1536x128, .bf16⟩
  | .local _ .vmem, ⟨3, _⟩ => ⟨S1536x3840, .fp8e4m3⟩
  | .local _ .vmem, ⟨4, _⟩ => ⟨S12x30, .f32⟩
  | .local _ .vmem, ⟨5, _⟩ => ⟨S6144x1536, .bf16⟩
  | .local _ .vmem, ⟨6, _⟩ => ⟨S6144x3840, .fp8e4m3⟩
  | .local _ .vmem, ⟨7, _⟩ => ⟨S6144x30, .f32⟩
  | _, _ => ⟨S2x3072x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3840 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x3840 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scalar.lean ====
/-
  The scale of one row of a block, as two formulas over the extended reals, and their equation: the search by doubling
  finds the least power of two above the greatest magnitude divided by 448.
-/
module

public import Idealize.ShloMosaic.PureOps.Ideal.Laws
public import Idealize.ShloMosaic.Lib.IdealHost
public import Mathlib.Analysis.SpecialFunctions.Pow.Real

@[expose] public section

noncomputable section

namespace Cert.Scale

open Idealize.ShloMosaic

/-- Two to an integer power, as an extended real. -/
def tw (k : ℤ) : EReal := (((2 : ℝ) ^ k : ℝ) : EReal)

/-- Powers of two multiply by adding exponents. -/
theorem tw_mul (k l : ℤ) : tw k * tw l = tw (k + l) := by
  unfold tw; rw [← EReal.coe_mul, zpow_add₀ (by norm_num)]

/-- Powers of two compare as their exponents, strictly. -/
theorem tw_lt {k l : ℤ} : tw k < tw l ↔ k < l := by
  unfold tw; rw [EReal.coe_lt_coe_iff]; exact zpow_lt_zpow_iff_right₀ (by norm_num)

/-- Powers of two compare as their exponents. -/
theorem tw_le {k l : ℤ} : tw k ≤ tw l ↔ k ≤ l := by
  unfold tw; rw [EReal.coe_le_coe_iff]; exact zpow_le_zpow_iff_right₀ (by norm_num)

/-- A power of two is positive. -/
theorem tw_pos (k : ℤ) : 0 < tw k := by
  unfold tw; rw [← EReal.coe_zero, EReal.coe_lt_coe_iff]; positivity

/-- 1.75 times two to an integer power. -/
def th (k : ℤ) : EReal := (((7 / 4 : ℝ) * (2 : ℝ) ^ k : ℝ) : EReal)

/-- A power of two times 1.75 is the threshold of its exponent. -/
theorem tw_th (k : ℤ) : tw k * ((7 / 4 : ℝ) : EReal) = th k := by
  unfold tw th; rw [← EReal.coe_mul, mul_comm]

/-- The thresholds grow with the exponent. -/
theorem th_le {k l : ℤ} (h : k ≤ l) : th k ≤ th l := by
  unfold th; rw [EReal.coe_le_coe_iff]
  exact mul_le_mul_of_nonneg_left ((zpow_le_zpow_iff_right₀ (by norm_num)).2 h) (by norm_num)

/-- One step of the search. -/
def stepS (c p w : EReal) : EReal := if p * w * ((7 / 4 : ℝ) : EReal) ≤ c then p * w else p

/-- The state of the search: the power reached, and how far the answer may still lie above it. -/
def Inv (c p : EReal) (r : ℤ) : Prop :=
  ∃ k : ℤ, p = tw k ∧ -118 ≤ k ∧ k + r ≤ 127 ∧ th k ≤ c ∧ (k + r = 127 ∨ c < th (k + r + 1))

/-- One step keeps the state. -/
theorem Inv.step {c p : EReal} {r d r' : ℤ} (h : Inv c p r) (hd : 0 ≤ d) (h2 : d - 1 ≤ r')
    (h3 : r' = r - d) : Inv c (stepS c p (tw d)) r' := by
  obtain ⟨k, rfl, hk, hr, hc, hu⟩ := h
  unfold stepS
  rw [tw_mul, tw_th]
  subst h3
  by_cases ht : th (k + d) ≤ c
  · rw [if_pos ht]
    refine ⟨k + d, rfl, by omega, by omega, ht, ?_⟩
    have e : k + d + (r - d) = k + r := by omega
    rw [e]; exact hu
  · rw [if_neg ht]
    refine ⟨k, rfl, hk, by omega, hc, Or.inr ?_⟩
    exact lt_of_lt_of_le (not_le.1 ht) (th_le (by omega))

/-- The search for the power of two, and the scale made of it. -/
def search (c : EReal) : EReal :=
  stepS c (stepS c (stepS c (stepS c (stepS c (stepS c (stepS c (stepS c (tw (-118)) (tw 123)) (tw 61)) (tw 31)) (tw 15))
    (tw 8)) (tw 4)) (tw 2)) (tw 1) * tw (-7)

/-- The search ends at the greatest exponent in its range whose threshold is at most the value. -/
theorem search_spec (c : EReal) (hc : th (-118) ≤ c) :
    ∃ k : ℤ, search c = tw (k - 7) ∧ -118 ≤ k ∧ k ≤ 127 ∧ th k ≤ c ∧ (k = 127 ∨ c < th (k + 1)) := by
  have h0 : Inv c (tw (-118)) 245 := ⟨-118, rfl, by omega, by omega, hc, Or.inl (by omega)⟩
  have h1 := h0.step (d := 123) (r' := 122) (by omega) (by omega) (by omega)
  have h2 := h1.step (d := 61) (r' := 61) (by omega) (by omega) (by omega)
  have h3 := h2.step (d := 31) (r' := 30) (by omega) (by omega) (by omega)
  have h4 := h3.step (d := 15) (r' := 15) (by omega) (by omega) (by omega)
  have h5 := h4.step (d := 8) (r' := 7) (by omega) (by omega) (by omega)
  have h6 := h5.step (d := 4) (r' := 3) (by omega) (by omega) (by omega)
  have h7 := h6.step (d := 2) (r' := 1) (by omega) (by omega) (by omega)
  have h8 := h7.step (d := 1) (r' := 0) (by omega) (by omega) (by omega)
  obtain ⟨k, hk, ha, hb, hc', hd⟩ := h8
  refine ⟨k, ?_, ha, by omega, hc', ?_⟩
  · unfold search; rw [hk, tw_mul]; rfl
  · rw [add_zero] at hd; exact hd

/-- The scale by the search. -/
def scaleK (a : EReal) : EReal := if th (-118) ≤ a then search (max a (th (-118))) else 1

/-- The quotient by 448, small values flushed to zero. -/
def quot (a : EReal) : EReal :=
  if tw (-126) ≤ Ideal.div a ((448 : ℝ) : EReal) then Ideal.div a ((448 : ℝ) : EReal) else 0

/-- Entry `j` of the table of powers of two, where it is above the quotient; the greatest power elsewhere. -/
def entry (q : EReal) (j : ℕ) : EReal := if q < tw ((j : ℤ) - 125) then tw ((j : ℤ) - 125) else tw 120

/-- The least of the table's entries, and one for a zero quotient. -/
def scaleR (a : EReal) : EReal :=
  if 0 < quot a then (Finset.univ : Finset (Fin 246)).fold min ⊤ (fun j => entry (quot a) j.val) else 1

/-- 448 is the threshold of exponent 8. -/
theorem e448 : ((448 : ℝ) : EReal) = th 8 := by unfold th; norm_num

/-- Comparing a quotient by 448 with a power of two. -/
theorem le_div_iff (a : EReal) (k : ℤ) : tw k ≤ Ideal.div a ((448 : ℝ) : EReal) ↔ th (k + 8) ≤ a := by
  rw [Ideal.div_coe (by norm_num)]
  have h8 : (2 : ℝ) ^ (k + 8) = 2 ^ k * 256 := by rw [zpow_add₀ (by norm_num)]; norm_num
  induction a using EReal.rec with
  | bot =>
    rw [EReal.bot_mul_coe_of_pos (by norm_num)]
    have hb : ∀ r : ℝ, ¬ ((r : EReal) ≤ ⊥) := fun r h => absurd (le_bot_iff.1 h) (EReal.coe_ne_bot r)
    exact ⟨fun h => absurd h (hb _), fun h => absurd h (hb _)⟩
  | top =>
    rw [EReal.top_mul_coe_of_pos (by norm_num)]
    simp
  | coe r =>
    unfold tw th
    rw [← EReal.coe_mul, EReal.coe_le_coe_iff, EReal.coe_le_coe_iff, h8]
    constructor <;> intro h <;> linarith

/-- The same comparison the other way round. -/
theorem lt_div_iff (a : EReal) (k : ℤ) : Ideal.div a ((448 : ℝ) : EReal) < tw k ↔ a < th (k + 8) := by
  rw [← not_le, ← not_le, le_div_iff]

/-- The two scales are equal. -/
theorem scaleK_eq_scaleR (a : EReal) : scaleK a = scaleR a := by
  unfold scaleK scaleR
  by_cases ha : th (-118) ≤ a
  · rw [if_pos ha, max_eq_left ha]
    have hq : quot a = Ideal.div a ((448 : ℝ) : EReal) := by
      unfold quot; rw [if_pos ((le_div_iff a (-126)).2 (by rw [show (-126 : ℤ) + 8 = -118 from rfl]; exact ha))]
    rw [hq]
    have hp : 0 < Ideal.div a ((448 : ℝ) : EReal) := lt_of_lt_of_le (tw_pos (-126)) ((le_div_iff a (-126)).2 (by rw [show (-126 : ℤ) + 8 = -118 from rfl]; exact ha))
    rw [if_pos hp]
    obtain ⟨k, hk, h1, h2, h3, h4⟩ := search_spec a ha
    rw [hk]
    apply le_antisymm
    · rw [Finset.le_fold_min]
      refine ⟨le_top, fun j _ => ?_⟩
      unfold entry
      split
      · rename_i hj
        rw [lt_div_iff] at hj
        have hlt : k < (j.val : ℤ) - 125 + 8 := by
          by_contra hn
          exact absurd (lt_of_lt_of_le hj (th_le (not_lt.1 hn))) (not_lt.2 h3)
        exact tw_le.2 (by omega)
      · exact tw_le.2 (by omega)
    · rw [Finset.fold_min_le]
      right
      rcases h4 with rfl | h4
      · refine ⟨⟨245, by omega⟩, Finset.mem_univ _, ?_⟩
        unfold entry
        split
        · exact tw_le.2 (by show (245 : ℤ) - 125 ≤ 127 - 7; omega)
        · exact le_refl _
      · by_cases h5 : k = 127
        · subst h5
          refine ⟨⟨245, by omega⟩, Finset.mem_univ _, ?_⟩
          unfold entry
          split
          · exact tw_le.2 (by show (245 : ℤ) - 125 ≤ 127 - 7; omega)
          · exact le_refl _
        · have hn : (((k + 118).toNat : ℕ) : ℤ) = k + 118 := Int.toNat_of_nonneg (by omega)
          refine ⟨⟨(k + 118).toNat, by omega⟩, Finset.mem_univ _, ?_⟩
          unfold entry
          have e : (((⟨(k + 118).toNat, by omega⟩ : Fin 246).val : ℕ) : ℤ) - 125 = k - 7 := by
            show (((k + 118).toNat : ℕ) : ℤ) - 125 = k - 7
            omega
          rw [e, if_pos ((lt_div_iff a (k - 7)).2 (by have : k - 7 + 8 = k + 1 := by omega
                                                      rw [this]; exact h4))]
  · rw [if_neg ha]
    have hq : quot a = 0 := by
      unfold quot
      rw [if_neg]
      intro h
      exact ha ((show th (-126 + 8) ≤ a from (le_div_iff a (-126)).1 h))
    rw [hq, if_neg (lt_irrefl _)]

end Cert.Scale

end
-- ==== Proof.Consts.lean ====
/-
  The constants of the two programs as extended reals.
-/
module

public import proofs.«01_k».proof.Proof.Scalar

@[expose] public section

noncomputable section

namespace Cert.Consts

open Idealize.ShloMosaic Cert.Scale

/-- The 16-bit constant that reads as 1.75 * 2^-118. -/
theorem b_tiny : Ideal.ofBits .bf16 0x04E0#16 = th (-118) := by
  simp [Ideal.ofBits, Ideal.ieee, -EReal.coe_mul, -EReal.coe_pow, th] <;> norm_num
/-- The 16-bit constant that reads as 2^-118. -/
theorem b_start : Ideal.ofBits .bf16 0x0480#16 = tw (-118) := by
  simp [Ideal.ofBits, Ideal.ieee, -EReal.coe_mul, -EReal.coe_pow, tw] <;> norm_num
/-- The 16-bit constant that reads as 2^123. -/
theorem b_123 : Ideal.ofBits .bf16 0x7D00#16 = tw 123 := by
  simp [Ideal.ofBits, Ideal.ieee, -EReal.coe_mul, -EReal.coe_pow, tw] <;> norm_num
/-- The 16-bit constant that reads as 2^61. -/
theorem b_61 : Ideal.ofBits .bf16 0x5E00#16 = tw 61 := by
  simp [Ideal.ofBits, Ideal.ieee, -EReal.coe_mul, -EReal.coe_pow, tw] <;> norm_num
/-- The 16-bit constant that reads as 2^31. -/
theorem b_31 : Ideal.ofBits .bf16 0x4F00#16 = tw 31 := by
  simp [Ideal.ofBits, Ideal.ieee, -EReal.coe_mul, -EReal.coe_pow, tw] <;> norm_num
/-- The 16-bit constant that reads as 2^15. -/
theorem b_15 : Ideal.ofBits .bf16 0x4700#16 = tw 15 := by
  simp [Ideal.ofBits, Ideal.ieee, -EReal.coe_mul, -EReal.coe_pow, tw] <;> norm_num
/-- The 16-bit constant that reads as 2^8. -/
theorem b_8 : Ideal.ofBits .bf16 0x4380#16 = tw 8 := by
  simp [Ideal.ofBits, Ideal.ieee, -EReal.coe_mul, -EReal.coe_pow, tw] <;> norm_num
/-- The 16-bit constant that reads as 2^4. -/
theorem b_4 : Ideal.ofBits .bf16 0x4180#16 = tw 4 := by
  simp [Ideal.ofBits, Ideal.ieee, -EReal.coe_mul, -EReal.coe_pow, tw] <;> norm_num
/-- The 16-bit constant that reads as 2^2. -/
theorem b_2 : Ideal.ofBits .bf16 0x4080#16 = tw 2 := by
  simp [Ideal.ofBits, Ideal.ieee, -EReal.coe_mul, -EReal.coe_pow, tw] <;> norm_num
/-- The 16-bit constant that reads as 2^1. -/
theorem b_1 : Ideal.ofBits .bf16 0x4000#16 = tw 1 := by
  simp [Ideal.ofBits, Ideal.ieee, -EReal.coe_mul, -EReal.coe_pow, tw] <;> norm_num
/-- The 16-bit constant that reads as 2^-7. -/
theorem b_last : Ideal.ofBits .bf16 0x3C00#16 = tw (-7) := by
  simp [Ideal.ofBits, Ideal.ieee, -EReal.coe_mul, -EReal.coe_pow, tw] <;> norm_num
/-- The 16-bit constant that reads as 1.75. -/
theorem b_seven : Ideal.ofBits .bf16 0x3FE0#16 = ((7 / 4 : ℝ) : EReal) := by
  simp [Ideal.ofBits, Ideal.ieee, -EReal.coe_mul, -EReal.coe_pow] <;> norm_num
/-- The 16-bit constant that reads as one. -/
theorem b_one : Ideal.ofBits .bf16 0x3F80#16 = 1 := by
  simp [Ideal.ofBits, Ideal.ieee, -EReal.coe_mul, -EReal.coe_pow] <;> norm_num
/-- The 16-bit constant that reads as zero. -/
theorem b_zero : Ideal.ofBits .bf16 0x0000#16 = 0 := by
  simp [Ideal.ofBits, Ideal.ieee, -EReal.coe_mul, -EReal.coe_pow] <;> norm_num
/-- The 16-bit constant that reads as minus infinity. -/
theorem b_bot : Ideal.ofBits .bf16 0xFF80#16 = ⊥ := by
  simp [Ideal.ofBits, Ideal.ieee, -EReal.coe_mul, -EReal.coe_pow] <;> norm_num
/-- The 16-bit constant that reads as 448. -/
theorem b_448 : Ideal.ofBits .bf16 0x43E0#16 = ((448 : ℝ) : EReal) := by
  simp [Ideal.ofBits, Ideal.ieee, -EReal.coe_mul, -EReal.coe_pow] <;> norm_num
/-- The 16-bit constant that reads as -448. -/
theorem b_n448 : Ideal.ofBits .bf16 0xC3E0#16 = ((-448 : ℝ) : EReal) := by
  simp [Ideal.ofBits, Ideal.ieee, -EReal.coe_mul, -EReal.coe_pow] <;> norm_num
/-- The 32-bit constant that reads as zero. -/
theorem f_zero : Ideal.ofBits .f32 0x00000000#32 = 0 := by
  simp [Ideal.ofBits, Ideal.ieee, -EReal.coe_mul, -EReal.coe_pow] <;> norm_num
/-- The 32-bit constant that reads as one. -/
theorem f_one : Ideal.ofBits .f32 0x3F800000#32 = 1 := by
  simp [Ideal.ofBits, Ideal.ieee, -EReal.coe_mul, -EReal.coe_pow] <;> norm_num
/-- The 32-bit constant that reads as 448. -/
theorem f_448 : Ideal.ofBits .f32 0x43E00000#32 = ((448 : ℝ) : EReal) := by
  simp [Ideal.ofBits, Ideal.ieee, -EReal.coe_mul, -EReal.coe_pow] <;> norm_num
/-- The 32-bit constant that reads as -448. -/
theorem f_n448 : Ideal.ofBits .f32 0xC3E00000#32 = ((-448 : ℝ) : EReal) := by
  simp [Ideal.ofBits, Ideal.ieee, -EReal.coe_mul, -EReal.coe_pow] <;> norm_num
/-- The 32-bit constant that reads as 2^-126. -/
theorem f_min : Ideal.ofBits .f32 0x00800000#32 = tw (-126) := by
  simp [Ideal.ofBits, Ideal.ieee, -EReal.coe_mul, -EReal.coe_pow, tw] <;> norm_num
/-- The 32-bit constant that reads as 125. -/
theorem f_125 : Ideal.ofBits .f32 0x42FA0000#32 = ((125 : ℝ) : EReal) := by
  simp [Ideal.ofBits, Ideal.ieee, -EReal.coe_mul, -EReal.coe_pow] <;> norm_num
/-- The 32-bit constant that reads as 2^120. -/
theorem f_120 : Ideal.ofBits .f32 0x7B800000#32 = tw 120 := by
  simp [Ideal.ofBits, Ideal.ieee, -EReal.coe_mul, -EReal.coe_pow, tw] <;> norm_num
/-- The 32-bit constant that reads as infinity. -/
theorem f_top : Ideal.ofBits .f32 0x7F800000#32 = ⊤ := by
  simp [Ideal.ofBits, Ideal.ieee, -EReal.coe_mul, -EReal.coe_pow] <;> norm_num

end Cert.Consts

end
-- ==== Proof.Model.lean ====
/-
  The three results as formulas over the extended reals, one row at a time: the outlier columns, the row's scales, its
  codes, and the product with the combined weight.
-/
module

public import proofs.«01_k».proof.Proof.Consts

@[expose] public section

noncomputable section

namespace Cert.Model

open Idealize.ShloMosaic Cert.Scale
open scoped Classical

/-- Column `d` is one of the outlier columns that `ix` names. -/
def isOut (ix : Fin 128 → BitVec 32) (d : Fin 3840) : Prop := ∃ j, ix j = BitVec.ofNat 32 d.val

/-- Whether a column is an outlier is decidable. -/
instance (ix : Fin 128 → BitVec 32) (d : Fin 3840) : Decidable (isOut ix d) := Classical.propDecidable _

/-- The truth of a proposition as a one-bit word. -/
def bit (p : Prop) : BitVec 1 := if p then 1#1 else 0#1

/-- Column `l` of block `g`. -/
def col (g : Fin 30) (l : Fin 128) : Fin 3840 := ⟨128 * g.val + l.val, by omega⟩
/-- The block of a column. -/
def blockOf (d : Fin 3840) : Fin 30 := ⟨d.val / 128, by omega⟩

/-- The row with its outlier columns set to zero. -/
def z (ix : Fin 128 → BitVec 32) (x : Fin 3840 → EReal) (d : Fin 3840) : EReal := if isOut ix d then 0 else x d

/-- The greatest magnitude of a block of the row. -/
def amax (ix : Fin 128 → BitVec 32) (x : Fin 3840 → EReal) (g : Fin 30) : EReal :=
  (Finset.univ : Finset (Fin 128)).fold max ⊥ (fun l => max (z ix x (col g l)) (-(z ix x (col g l))))

/-- The scale of a block of the row. -/
def sc (ix : Fin 128 → BitVec 32) (x : Fin 3840 → EReal) (g : Fin 30) : EReal := scaleR (amax ix x g)

/-- The code of a column of the row. -/
def code (ix : Fin 128 → BitVec 32) (x : Fin 3840 → EReal) (d : Fin 3840) : EReal :=
  min ((448 : ℝ) : EReal) (max ((-448 : ℝ) : EReal) (z ix x d * Ideal.div 1 (sc ix x (blockOf d))))

/-- The value of a column of the row that meets the weight. -/
def xc (ix : Fin 128 → BitVec 32) (x : Fin 3840 → EReal) (d : Fin 3840) : EReal :=
  if isOut ix d then x d else code ix x d * sc ix x (blockOf d)

/-- The outlier weight of a row of the weight at a column: the entries of the outliers that name the column, summed. -/
def wout (ix : Fin 128 → BitVec 32) (wo : Fin 128 → EReal) (d : Fin 3840) : EReal :=
  ∑ j : Fin 128, wo j * (if ix j = BitVec.ofNat 32 d.val then 1 else 0)

/-- The combined weight of a row of the weight at a column. -/
def wc (ix : Fin 128 → BitVec 32) (wo : Fin 128 → EReal) (w : Fin 3840 → EReal) (s : Fin 30 → EReal) (d : Fin 3840) : EReal :=
  if isOut ix d then wout ix wo d else w d * s (blockOf d)

/-- One entry of the product. -/
def y (ix : Fin 128 → BitVec 32) (x : Fin 3840 → EReal) (wo : Fin 128 → EReal) (w : Fin 3840 → EReal) (s : Fin 30 → EReal) : EReal :=
  ∑ d : Fin 3840, xc ix x d * wc ix wo w s d

/-- The outlier indices ascend strictly, as signed words. -/
def Inc (ix : Fin 128 → BitVec 32) : Prop :=
  ∀ (j : Fin 128) (h : j.val + 1 < 128), (ix j).slt (ix ⟨j.val + 1, h⟩) = true

/-- A select on the truth of a proposition is a choice by the proposition. -/
theorem select_bit {α : Type} (p : Prop) [Decidable p] (a b : α) : Scalar.select (bit p) a b = if p then a else b := by
  unfold bit
  by_cases h : p
  · rw [if_pos h, if_pos h]; rfl
  · rw [if_neg h, if_neg h]; rfl

/-- The decision of a proposition as a bit is its truth as a bit. -/
theorem bit_ofBool (p : Prop) [Decidable p] : BitVec.ofBool (decide p) = bit p := by
  unfold bit
  by_cases h : p
  · rw [if_pos h, decide_eq_true h]; rfl
  · rw [if_neg h, decide_eq_false h]; rfl

/-- Equivalent propositions have the same bit. -/
theorem bit_congr {p q : Prop} (h : p ↔ q) : bit p = bit q := by rw [propext h]

/-- A column of a block lies in that block. -/
theorem blockOf_col (g : Fin 30) (l : Fin 128) : blockOf (col g l) = g := Fin.ext (by show (128 * g.val + l.val) / 128 = g.val; omega)

end Cert.Model

end
-- ==== Proof.PreFacts.lean ====
/-
  The precondition, read: its side conditions hold, and where it is all ones the outlier indices increase strictly.
-/
module

public import proofs.«01_k».proof.Pre_increasing
public import proofs.«01_k».proof.Proof.Model

@[expose] public section

noncomputable section

namespace Cert.Pre_increasing.Read

open Cert.Pre_increasing Idealize.ShloMosaic Idealize.ShloMosaic.ValueIdx

/-- The entries 0 to 126 lie inside the 128 indices. -/
theorem slices_S128_S127_0 : S128.Slices ![0] S127 := by decide

/-- The entries 1 to 127 lie inside the 128 indices. -/
theorem slices_S128_S127_1 : S128.Slices ![1] S127 := by decide

/-- The precondition's side conditions. -/
instance facts : Cert.Pre_increasing.Facts where
  slices_S128_S127_0 := @slices_S128_S127_0
  slices_S128_S127_1 := @slices_S128_S127_1

/-- Where the precondition is all ones, each outlier index is below the next as a signed word. -/
theorem inc_of_fn (x0 : FVec Ideal S2x3072x3840 .bf16) (x1 : IVec S128 32) (x2 : FVec Ideal S1536x128 .bf16)
    (x3 : FVec Ideal S1536x3840 .fp8e4m3) (x4 : FVec Ideal S12x30 .f32)
    (h : Cert.Pre_increasing.fn (F := Ideal) x0 x1 x2 x3 x4 = fun _ => 1#1) :
    Model.Inc fun j => x1 (ix1 j) := by
  intro j hj
  have hy : BitVec.ofBool ((extractStridedSlice S127 ![0] x1 slices_S128_S127_0 (ix1 ⟨j.val, by omega⟩)).slt
      (extractStridedSlice S127 ![1] x1 slices_S128_S127_1 (ix1 ⟨j.val, by omega⟩))) = 1#1 :=
    congrFun h (ix1 ⟨j.val, by omega⟩)
  have e0 : extractStridedSlice S127 ![0] x1 slices_S128_S127_0 (ix1 ⟨j.val, by omega⟩) = x1 (ix1 j) := by
    refine congrArg x1 ?_
    funext a
    apply Fin.ext
    match a with
    | ⟨0, _⟩ => exact Nat.zero_add _
  have e1 : extractStridedSlice S127 ![1] x1 slices_S128_S127_1 (ix1 ⟨j.val, by omega⟩) = x1 (ix1 ⟨j.val + 1, hj⟩) := by
    refine congrArg x1 ?_
    funext a
    apply Fin.ext
    match a with
    | ⟨0, _⟩ => exact Nat.add_comm _ _
  rw [e0, e1] at hy
  cases hb : (x1 (ix1 j)).slt (x1 (ix1 ⟨j.val + 1, hj⟩)) with
  | true => rfl
  | false => rw [hb] at hy; exact absurd hy (by decide)

end Cert.Pre_increasing.Read

end
-- ==== Proof.Vocab.lean ====
/-
  What one block of the kernel computes, as definitions over the values that the block reads: the quantiser of one
  512x128 block of activations, the outlier bookkeeping of one 128-column block, and one 128x128 block of the
  combined weight. Then the pieces that a grid point stores, as lists built block by block.
-/
module

public import proofs.«01_k».proof.Proof.Gen.KernelIdeal.Skeleton

@[expose] public section

noncomputable section

namespace Cert.KernelIdeal.Blocks

open Cert.KernelIdeal Cert.KernelIdeal.Gen Idealize.ShloMosaic

variable {F : FTy → Type} [FloatOps F]

/-! ## The quantiser of one 512x128 block -/

/-- The columns of a block that are kept (no outlier column), as a mask over the block. -/
def keepMask (kp : IVec S1x128 32) : IVec S512x128 1 :=
  broadcastTo S512x128 (shapeCast S1x128 (cmpi .slt kp (broadcast S1x128 0#32)) shapeCasts_S1x128_S1x128)
    broadcasts_S1x128_S512x128

/-- The block of activations as it is read. -/
def xin (xb : FVec F S512x128 .bf16) : FVec F S512x128 .bf16 := shapeCast S512x128 xb shapeCasts_S512x128_S512x128

/-- The block with its outlier columns set to zero. -/
def xz (xb : FVec F S512x128 .bf16) (kp : IVec S1x128 32) : FVec F S512x128 .bf16 :=
  select (keepMask kp) (xin xb) (broadcast S512x128 (Scalar.ofBits .bf16 0x0000#16))

/-- The greatest magnitude of each row of the block, along the row. -/
def amax (xb : FVec F S512x128 .bf16) (kp : IVec S1x128 32) : FVec F S512x128 .bf16 :=
  broadcastTo S512x128 (shapeCast S512x1 (shapeCast S512x1
    (multiReduction .maximumf [1] S512 (absf (xz xb kp)) 0xFF80#16 reduces_S512x128_S512 (.inr rfl) rfl)
    shapeCasts_S512_S512x1) shapeCasts_S512x1_S512x1) broadcasts_S512x1_S512x128

/-- One step of the search for the power of two: the power is multiplied by `w` where the result stays within reach. -/
def step (cl p : FVec F S512x128 .bf16) (w : BitVec 16) : FVec F S512x128 .bf16 :=
  select (cmpf .oge cl (mulf (mulf p (broadcast S512x128 (Scalar.ofBits .bf16 w)))
      (broadcast S512x128 (Scalar.ofBits .bf16 0x3FE0#16))))
    (mulf p (broadcast S512x128 (Scalar.ofBits .bf16 w))) p

/-- The power of two that the search finds for a clamped magnitude. -/
def pow2 (cl : FVec F S512x128 .bf16) : FVec F S512x128 .bf16 :=
  mulf (step cl (step cl (step cl (step cl (step cl (step cl (step cl (step cl
      (broadcast S512x128 (Scalar.ofBits .bf16 0x0480#16)) 0x7D00#16) 0x5E00#16) 0x4F00#16) 0x4700#16) 0x4380#16)
      0x4180#16) 0x4080#16) 0x4000#16)
    (broadcast S512x128 (Scalar.ofBits .bf16 0x3C00#16))

/-- The scale of each row of the block, along the row. -/
def scale (xb : FVec F S512x128 .bf16) (kp : IVec S1x128 32) : FVec F S512x128 .bf16 :=
  select (cmpf .oge (amax xb kp) (broadcast S512x128 (Scalar.ofBits .bf16 0x04E0#16)))
    (pow2 (maximumf (amax xb kp) (broadcast S512x128 (Scalar.ofBits .bf16 0x04E0#16))))
    (broadcast S512x128 (Scalar.ofBits .bf16 0x3F80#16))

/-- The fp8 codes of the block. -/
def codes (xb : FVec F S512x128 .bf16) (kp : IVec S1x128 32) : FVec F S512x128 .fp8e4m3 :=
  truncf .fp8e4m3 (minimumf (maximumf (mulf (xz xb kp)
      (divf (broadcast S512x128 (Scalar.ofBits .bf16 0x3F80#16)) (scale xb kp)))
    (broadcast S512x128 (Scalar.ofBits .bf16 0xC3E0#16))) (broadcast S512x128 (Scalar.ofBits .bf16 0x43E0#16)))
    bitsLt_fp8e4m3_bf16

/-- The block that meets the matrix unit: dequantised in the kept columns, as read in the outlier columns. -/
def comb (xb : FVec F S512x128 .bf16) (kp : IVec S1x128 32) : FVec F S512x128 .bf16 :=
  shapeCast S512x128 (select (keepMask kp) (mulf (extf .bf16 (codes xb kp) bitsLt_fp8e4m3_bf16) (scale xb kp)) (xin xb))
    shapeCasts_S512x128_S512x128

/-- The lane numbers of one row. -/
def lane : IVec S1x128 32 := iota .tc S1x128 32 [1] iota_S1x128_d1_w32

/-- The scales of the first `n` blocks, block `k`'s in lane `k`. -/
def scales (xrd : (k : ℕ) → k < 30 → FVec F S512x128 .bf16) (krd : (k : ℕ) → k < 30 → IVec S1x128 32) :
    (n : ℕ) → n ≤ 30 → FVec F S512x128 .f32
  | 0, _ => broadcast S512x128 (Scalar.ofBits .f32 0x00000000#32)
  | n + 1, h => select (broadcastTo S512x128 (shapeCast S1x128
        (cmpi .eq lane (broadcast S1x128 (BitVec.ofNat 32 n))) shapeCasts_S1x128_S1x128) broadcasts_S1x128_S512x128)
      (extf .f32 (scale (xrd n h) (krd n h)) bitsLt_bf16_f32) (scales xrd krd n (Nat.le_of_succ_le h))

/-! ## The outlier bookkeeping of one 128-column block -/

/-- The outlier indices along the rows of a 128x128 table. -/
def col (ix : IVec S1x128 32) : IVec S128x128 32 :=
  transpose S128x128 [1, 0] (broadcastTo S128x128 (shapeCast S1x128 (shapeCast S1x128 ix shapeCasts_S1x128_S1x128)
    shapeCasts_S1x128_S1x128) broadcasts_S1x128_S128x128) transposes_S128x128_p1_0_S128x128

/-- The channel numbers of block `kb`. -/
def chan (kb : ℕ) : IVec S1x128 32 := addi lane (broadcast S1x128 (BitVec.ofNat 32 (128 * kb)))

/-- How many outlier indices stand in relation `p` to each channel of block `kb`. -/
def count (p : CmpIPredicate) (ix : IVec S1x128 32) (kb : ℕ) : IVec S1x128 32 :=
  shapeCast S1x128 (multiReductionI .add [0] S128 (select (cmpi p (col ix) (broadcastTo S128x128 (chan kb)
      broadcasts_S1x128_S128x128))
    (broadcast S128x128 1#32) (broadcast S128x128 0#32)) 0#32 reduces_S128x128_S128 rfl) shapeCasts_S128_S1x128

/-- Minus one at a kept channel of block `kb`, zero at an outlier. -/
def keep (ix : IVec S1x128 32) (kb : ℕ) : IVec S1x128 32 := subi (count .eq ix kb) (broadcast S1x128 1#32)

/-- How many outliers precede each channel of block `kb`, at most 127. -/
def rank (ix : IVec S1x128 32) (kb : ℕ) : IVec S1x128 32 := minsi (count .slt ix kb) (broadcast S1x128 127#32)

/-- The rank along the columns of a 128x128 table. -/
def rankB (ix : IVec S1x128 32) (kb : ℕ) : IVec S128x128 32 :=
  broadcastTo S128x128 (shapeCast S1x128 (rank ix kb) shapeCasts_S1x128_S1x128) broadcasts_S1x128_S128x128

/-- The columns that the gather reads. -/
def gidx (ix : IVec S1x128 32) (kb : ℕ) : IVec S128x128 32 :=
  shapeCast S128x128 (shapeCast S128x128x1 (select (cmpi .slt (rankB ix kb) (broadcast S128x128 0#32))
    (addi (rankB ix kb) (broadcast S128x128 128#32)) (rankB ix kb)) shapeCasts_S128x128_S128x128x1)
    shapeCasts_S128x128x1_S128x128

/-! ## One 128x128 block of the combined weight -/

/-- Rows `128 * ob` on of the outlier weight lie inside it. -/
theorem slices_ob (ob : ℕ) (h : ob < 12) : S1536x128.Slices ![128 * ob, 0] S128x128 :=
  ⟨rfl, fun a => by match a with | ⟨0, _⟩ => show 128 * ob + 128 ≤ 1536; omega | ⟨1, _⟩ => show 0 + 128 ≤ 128; omega⟩

/-- The outlier weight's columns laid out at their channels. -/
def wout (ix : IVec S1x128 32) (wo : FVec F S1536x128 .bf16) (kb ob : ℕ) (h : ob < 12) : FVec F S128x128 .bf16 :=
  truncf .bf16 (dynamicGather 1 (extractStridedSlice S128x128 ![128 * ob, 0] (extf .f32 wo bitsLt_bf16_f32)
    (slices_ob ob h)) (gidx ix kb)) bitsLt_bf16_f32

/-- The dequantised weight block. -/
def wdeq (wc : FVec F S128x128 .fp8e4m3) (s : F .f32) : FVec F S128x128 .bf16 :=
  mulf (extf .bf16 wc bitsLt_fp8e4m3_bf16) (truncf .bf16 (broadcast S128x128 s) bitsLt_bf16_f32)

/-- The combined weight block: dequantised in the kept columns, the outlier weight in the others. -/
def wblk (ix : IVec S1x128 32) (wo : FVec F S1536x128 .bf16) (wc : FVec F S128x128 .fp8e4m3) (s : F .f32)
    (kb ob : ℕ) (h : ob < 12) : FVec F S128x128 .bf16 :=
  shapeCast S128x128 (select (broadcastTo S128x128 (shapeCast S1x128
      (cmpi .slt (keep ix kb) (broadcast S1x128 0#32)) shapeCasts_S1x128_S1x128) broadcasts_S1x128_S128x128)
    (wdeq wc s) (wout ix wo kb ob h)) shapeCasts_S128x128_S128x128

/-! ## The rectangles -/

/-- Block `k` of the columns of a row of 3840. -/
theorem inbK (k : ℕ) (h : k < 30) : ∀ a, (![0, 128 * k] : Fin 2 → ℕ) a + S1x128.size a ≤ S1x3840.size a :=
  fun a => by match a with | ⟨0, _⟩ => exact Nat.le_refl 1 | ⟨1, _⟩ => show 128 * k + 128 ≤ 3840; omega

/-- Block `k` of the columns of the activations. -/
theorem inbX (k : ℕ) (h : k < 30) : ∀ a, (![0, 128 * k] : Fin 2 → ℕ) a + S512x128.size a ≤ S512x3840.size a :=
  fun a => by match a with | ⟨0, _⟩ => exact Nat.le_refl 512 | ⟨1, _⟩ => show 128 * k + 128 ≤ 3840; omega

/-- Block `(ob, kb)` of the weight. -/
theorem inbW (ob kb : ℕ) (ho : ob < 12) (h : kb < 30) :
    ∀ a, (![128 * ob, 128 * kb] : Fin 2 → ℕ) a + S128x128.size a ≤ S1536x3840.size a :=
  fun a => by match a with | ⟨0, _⟩ => show 128 * ob + 128 ≤ 1536; omega | ⟨1, _⟩ => show 128 * kb + 128 ≤ 3840; omega

/-- Entry `(ob, kb)` of the weight's scales. -/
theorem inbS (ob kb : ℕ) (ho : ob < 12) (h : kb < 30) :
    ∀ a, (![ob, kb] : Fin 2 → ℕ) a + S1x1.size a ≤ S12x30.size a :=
  fun a => by match a with | ⟨0, _⟩ => show ob + 1 ≤ 12; omega | ⟨1, _⟩ => show kb + 1 ≤ 30; omega

/-- Rows `256 * n` on of the weight. -/
theorem inbR (n : ℕ) (h : n < 6) : ∀ a, (![256 * n, 0] : Fin 2 → ℕ) a + S256x3840.size a ≤ S1536x3840.size a :=
  fun a => by match a with | ⟨0, _⟩ => show 256 * n + 256 ≤ 1536; omega | ⟨1, _⟩ => exact Nat.le_refl 3840

/-- Columns `256 * n` on of the product. -/
theorem inbY (n : ℕ) (h : n < 6) : ∀ a, (![0, 256 * n] : Fin 2 → ℕ) a + S512x256.size a ≤ S512x1536.size a :=
  fun a => by match a with | ⟨0, _⟩ => exact Nat.le_refl 512 | ⟨1, _⟩ => show 256 * n + 256 ≤ 1536; omega

/-- The rectangle of block `k` of the keep words. -/
abbrev rK (k : ℕ) (h : k < 30) : Rect S1x3840 := Rect.unit ![0, 128 * k] S1x128.size (inbK k h)
/-- The rectangle of block `k` of the activations. -/
abbrev rX (k : ℕ) (h : k < 30) : Rect S512x3840 := Rect.unit ![0, 128 * k] S512x128.size (inbX k h)
/-- The rectangle of block `(ob, kb)` of the weight. -/
abbrev rW (ob kb : ℕ) (ho : ob < 12) (h : kb < 30) : Rect S1536x3840 :=
  Rect.unit ![128 * ob, 128 * kb] S128x128.size (inbW ob kb ho h)
/-- The rectangle of entry `(ob, kb)` of the weight scales. -/
abbrev rS (ob kb : ℕ) (ho : ob < 12) (h : kb < 30) : Rect S12x30 := Rect.unit ![ob, kb] S1x1.size (inbS ob kb ho h)
/-- The rectangle of tile `n` of the weight's rows. -/
abbrev rR (n : ℕ) (h : n < 6) : Rect S1536x3840 := Rect.unit ![256 * n, 0] S256x3840.size (inbR n h)
/-- The rectangle of tile `n` of the result's columns. -/
abbrev rY (n : ℕ) (h : n < 6) : Rect S512x1536 := Rect.unit ![0, 256 * n] S512x256.size (inbY n h)

/-! ## The pieces that a grid point stores, last store first -/

/-- The items `f 0, …, f (n - 1)`, last first. -/
def items {α : Type} (N : ℕ) (f : (k : ℕ) → k < N → α) : (n : ℕ) → n ≤ N → List α
  | 0, _ => []
  | n + 1, h => f n h :: items N f n (Nat.le_of_succ_le h)

/-- An item of the list is one of the `f k`. -/
theorem of_mem_items {α : Type} {N : ℕ} {f : (k : ℕ) → k < N → α} {p : α} :
    {n : ℕ} → {h : n ≤ N} → p ∈ items N f n h → ∃ (k : ℕ) (hk : k < N), p = f k hk
  | 0, _, hp => (by simp [items] at hp)
  | n + 1, h, hp => by
    rcases List.mem_cons.mp hp with rfl | hp
    · exact ⟨n, h, rfl⟩
    · exact of_mem_items hp

/-- Each `f k` is an item of the list. -/
theorem mem_items {α : Type} {N : ℕ} {f : (k : ℕ) → k < N → α} :
    {n : ℕ} → {h : n ≤ N} → (k : ℕ) → (hk : k < n) → f k (Nat.lt_of_lt_of_le hk h) ∈ items N f n h
  | 0, _, k, hk => absurd hk (Nat.not_lt_zero k)
  | n + 1, h, k, hk => by
    rcases Nat.lt_succ_iff_lt_or_eq.mp hk with hk' | rfl
    · exact List.mem_cons_of_mem _ (mem_items k hk')
    · exact List.mem_cons_self

/-- The stores of the keep words. -/
def piecesK (ix : IVec S1x128 32) : List (View.Piece (Elt F) S1x3840 .i32) :=
  items 30 (fun k h => (⟨rK k h, shapeCast S1x128 (keep ix k) shapeCasts_S1x128_S1x128⟩ : View.Piece (Elt F) S1x3840 .i32))
    30 (Nat.le_refl 30)

/-- The stores of the combined weight. -/
def piecesW (ix : IVec S1x128 32) (wo : FVec F S1536x128 .bf16)
    (wrd : (ob kb : ℕ) → (ho : ob < 12) → (h : kb < 30) → FVec F S128x128 .fp8e4m3)
    (srd : (ob kb : ℕ) → (ho : ob < 12) → (h : kb < 30) → F .f32) : List (View.Piece (Elt F) S1536x3840 .bf16) :=
  items 360 (fun i h => (⟨rW (i % 12) (i / 12) (Nat.mod_lt _ (by omega)) (by omega),
      wblk ix wo (wrd (i % 12) (i / 12) (Nat.mod_lt _ (by omega)) (by omega))
        (srd (i % 12) (i / 12) (Nat.mod_lt _ (by omega)) (by omega)) (i / 12) (i % 12) (Nat.mod_lt _ (by omega))⟩ :
      View.Piece (Elt F) S1536x3840 .bf16)) 360 (Nat.le_refl 360)

/-- The stores of the codes. -/
def piecesC (xrd : (k : ℕ) → k < 30 → FVec F S512x128 .bf16) (krd : (k : ℕ) → k < 30 → IVec S1x128 32) :
    List (View.Piece (Elt F) S512x3840 .fp8e4m3) :=
  items 30 (fun k h => (⟨rX k h, codes (xrd k h) (krd k h)⟩ : View.Piece (Elt F) S512x3840 .fp8e4m3)) 30 (Nat.le_refl 30)

/-- The stores of the blocks that meet the matrix unit. -/
def piecesX (xrd : (k : ℕ) → k < 30 → FVec F S512x128 .bf16) (krd : (k : ℕ) → k < 30 → IVec S1x128 32) :
    List (View.Piece (Elt F) S512x3840 .bf16) :=
  items 30 (fun k h => (⟨rX k h, comb (xrd k h) (krd k h)⟩ : View.Piece (Elt F) S512x3840 .bf16)) 30 (Nat.le_refl 30)

/-- The store of the scales. -/
def piecesS (xrd : (k : ℕ) → k < 30 → FVec F S512x128 .bf16) (krd : (k : ℕ) → k < 30 → IVec S1x128 32) :
    List (View.Piece (Elt F) S512x30 .f32) :=
  [⟨Rect.unit ![0, 0] S512x30.size inb_S512x30_S512x30_0_0,
    extractStridedSlice S512x30 ![0, 0] (scales xrd krd 30 (Nat.le_refl 30)) slices_S512x128_o0_0_S512x30⟩]

/-- The stores of the product: 256 columns at a time. -/
def piecesY (xc : FVec F S512x3840 .bf16) (wr : (n : ℕ) → n < 6 → FVec F S256x3840 .bf16) :
    List (View.Piece (Elt F) S512x1536 .bf16) :=
  items 6 (fun n h => (⟨rY n h, truncf .bf16 (matmul dot_S512x3840_S256x3840_S512x256_1_1_0_0_n_n none xc (wr n h)
      (constant S512x256 .f32 0x00000000#32)) bitsLt_bf16_f32⟩ : View.Piece (Elt F) S512x1536 .bf16)) 6 (Nat.le_refl 6)

end Cert.KernelIdeal.Blocks

end
-- ==== Proof.Pieces.lean ====
/-
  The pieces that the kernel's body stores are the block vocabulary's lists: in the points that build the weight and in
  the points that find it built.
-/
module

public import proofs.«01_k».proof.Proof.Vocab
public import proofs.«01_k».proof.Proof.Gen.KernelIdeal.Frame

@[expose] public section

noncomputable section

namespace Cert.KernelIdeal.Blocks

open Cert.KernelIdeal Cert.KernelIdeal.Gen Idealize.ShloMosaic Idealize.ShloMosaic.TcCoe Idealize.ShloMosaic.Tactic

variable {F : FTy → Type} [FloatOps F]

section
variable (c : Dev nD) (i : grid0.Coords) (arg1 : Memref sig .tc .vmem S512x3840 .bf16) (harg1 : arg1.IsWhole) (arg2 : Memref sig .tc .vmem S1x128 .i32) (harg2 : arg2.IsWhole) (arg3 : Memref sig .tc .vmem S1536x128 .bf16) (harg3 : arg3.IsWhole) (arg4 : Memref sig .tc .vmem S1536x3840 .fp8e4m3) (harg4 : arg4.IsWhole) (arg5 : Memref sig .tc .smem S12x30 .f32) (harg5 : arg5.IsWhole) (arg6 : Memref sig .tc .vmem S512x1536 .bf16) (harg6 : arg6.IsWhole) (arg7 : Memref sig .tc .vmem S512x3840 .fp8e4m3) (harg7 : arg7.IsWhole) (arg8 : Memref sig .tc .vmem S512x30 .f32) (harg8 : arg8.IsWhole) (arg9 : Memref sig .tc .vmem S1x3840 .i32) (harg9 : arg9.IsWhole) (arg10 : Memref sig .tc .vmem S1536x3840 .bf16) (harg10 : arg10.IsWhole) (arg11 : Memref sig .tc .vmem S512x3840 .bf16) (harg11 : arg11.IsWhole)
  (x0 : Vec F S512x3840 .bf16) (x1 : Vec F S1x128 .i32) (x2 : Vec F S1536x128 .bf16) (x3 : Vec F S1536x3840 .fp8e4m3) (x4 : Vec F S12x30 .f32)
  (xs0 : Vec F S1x3840 .i32) (xs1 : Vec F S1536x3840 .bf16)

/-- The block of activations that the body loads. -/
def xrd (k : ℕ) (h : k < 30) : FVec F S512x128 .bf16 :=
  View.readAt (Elt F) arg1.view (rX k h).toLoadRect (harg1.unread x0)

/-- The keep words that the body loads where they were there before. -/
def krdB (k : ℕ) (h : k < 30) : IVec S1x128 32 := View.readAt (Elt F) arg9.view (rK k h).toLoadRect (harg9.unread xs0)

/-- The outlier indices that the body loads. -/
def ixrd : IVec S1x128 32 :=
  View.readAt (Elt F) arg2.view (Rect.unit ![0, 0] S1x128.size inb_S1x128_S1x128_0_0).toLoadRect (harg2.unread x1)

/-- The outlier weight that the body loads. -/
def word : FVec F S1536x128 .bf16 :=
  View.readAt (Elt F) arg3.view (Rect.unit ![0, 0] S1536x128.size inb_S1536x128_S1536x128_0_0).toLoadRect (harg3.unread x2)

/-- The weight codes that the body loads. -/
def wcrd (ob kb : ℕ) (ho : ob < 12) (h : kb < 30) : FVec F S128x128 .fp8e4m3 :=
  View.readAt (Elt F) arg4.view (rW ob kb ho h).toLoadRect (harg4.unread x3)

/-- The weight scale that the body loads. -/
def wsrd (ob kb : ℕ) (ho : ob < 12) (h : kb < 30) : F .f32 :=
  View.readAt (Elt F) arg5.view (rS ob kb ho h).toLoadRect (harg5.unread x4) (Shape.Idx.first (s := S1x1) (by decide))

/-- The keep words that the body loads after storing them. -/
def krdA (k : ℕ) (h : k < 30) : IVec S1x128 32 :=
  arg9.view.readCov (piecesK (F := F) (ixrd (F := F) arg2 harg2 x1)) (rK k h).toLoadRect

/-- The weight rows that the body loads after storing them. -/
def wrowA (n : ℕ) (h : n < 6) : FVec F S256x3840 .bf16 :=
  arg10.view.readCov (piecesW (ixrd (F := F) arg2 harg2 x1) (word arg3 harg3 x2) (wcrd arg4 harg4 x3) (wsrd arg5 harg5 x4))
    (rR n h).toLoadRect

/-- The weight rows that the body loads where they were there before. -/
def wrowB (n : ℕ) (h : n < 6) : FVec F S256x3840 .bf16 :=
  View.readAt (Elt F) arg10.view (rR n h).toLoadRect (harg10.unread xs1)

/-- The array that meets the matrix unit, loaded after its blocks were stored. -/
def xcrd (xr : (k : ℕ) → k < 30 → FVec F S512x128 .bf16) (kr : (k : ℕ) → k < 30 → IVec S1x128 32) : FVec F S512x3840 .bf16 :=
  arg11.view.readCov (piecesX xr kr) (Rect.unit ![0, 0] S512x3840.size inb_S512x3840_S512x3840_0_0).toLoadRect

/-- In a point that builds the weight, the columns of the product stored are the vocabulary's. -/
theorem pieces_A5 (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).1
      = piecesY (xcrd arg11 (xrd arg1 harg1 x0) (krdA (F := F) arg2 harg2 arg9 x1)) (wrowA arg2 harg2 arg3 harg3 arg4 harg4 arg5 harg5 arg10 x1 x2 x3 x4) := by
  sl_kernel_rfl

/-- In a point that builds the weight, the codes stored are the vocabulary's. -/
theorem pieces_A6 (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.1
      = piecesC (xrd arg1 harg1 x0) (krdA (F := F) arg2 harg2 arg9 x1) := by
  sl_kernel_rfl

/-- In a point that builds the weight, the scales stored are the vocabulary's. -/
theorem pieces_A7 (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.1
      = piecesS (xrd arg1 harg1 x0) (krdA (F := F) arg2 harg2 arg9 x1) := by
  sl_kernel_rfl

/-- In a point that finds the weight built, the columns of the product stored are the vocabulary's. -/
theorem pieces_B5 (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1
      = piecesY (xcrd arg11 (xrd arg1 harg1 x0) (krdB (F := F) arg9 harg9 xs0)) (wrowB arg10 harg10 xs1) := by
  sl_kernel_rfl

/-- In a point that finds the weight built, the codes stored are the vocabulary's. -/
theorem pieces_B6 (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1
      = piecesC (xrd arg1 harg1 x0) (krdB (F := F) arg9 harg9 xs0) := by
  sl_kernel_rfl

/-- In a point that finds the weight built, the scales stored are the vocabulary's. -/
theorem pieces_B7 (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.2.1
      = piecesS (xrd arg1 harg1 x0) (krdB (F := F) arg9 harg9 xs0) := by
  sl_kernel_rfl

/-- In a point that builds the weight, the keep words stored are the vocabulary's. -/
theorem pieces_AK (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1
      = piecesK (F := F) (ixrd (F := F) arg2 harg2 x1) := by
  sl_kernel_rfl

/-- In a point that builds the weight, the weight blocks stored are the vocabulary's. -/
theorem pieces_AW (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.2.2.1
      = piecesW (ixrd (F := F) arg2 harg2 x1) (word arg3 harg3 x2) (wcrd arg4 harg4 x3) (wsrd arg5 harg5 x4) := by
  sl_kernel_rfl

end

end Cert.KernelIdeal.Blocks

end
-- ==== Proof.Holds.lean ====
/-
  What the arrays hold after one grid point: the keep words, the combined weight, the codes, the scales and the product,
  each as a function of the blocks that the point reads.
-/
module

public import proofs.«01_k».proof.Proof.Pieces
public import Idealize.ShloMosaic.Lib.ValueIdx
public import Idealize.ShloMosaic.Lib.Pipeline.Value
public import Idealize.ShloMosaic.Lib.ValueIdxCoords

@[expose] public section

noncomputable section

namespace Cert.KernelIdeal.Blocks

open Cert.KernelIdeal Cert.KernelIdeal.Gen Idealize.ShloMosaic Idealize.ShloMosaic.TcCoe Idealize.ShloMosaic.ValueIdx

/-! ## Lists of items -/

/-- If every item agrees with `G` on its rectangle and item `k` holds the index `y`, the contents that the items leave
    at `y` are `G y`. -/
theorem canon_items {S : Shape} {e : EltTy} {N : ℕ} (r : (k : ℕ) → k < N → Rect S)
    (g : (k : ℕ) → (h : k < N) → (r k h).shape.Idx → Elt Ideal e)
    (G : S.Idx → Elt Ideal e) (hG : ∀ k h x, g k h x = G ((r k h).emb x)) (y : S.Idx) (k : ℕ) (hk : k < N)
    (hy : y ∈ (r k hk).set) :
    View.canon (items N (fun k h => (⟨r k h, g k h⟩ : View.Piece (Elt Ideal) S e)) N (Nat.le_refl N)) y = G y := by
  refine View.canon_apply_of_pieces G _ ?_ y ⟨⟨r k hk, g k hk⟩, mem_items k hk, hy⟩
  intro p hp x
  obtain ⟨k', hk', rfl⟩ := of_mem_items hp
  exact hG k' hk' x

/-! ## The blocks read -/

/-- Column block `k` of the activations. -/
abbrev xblk (x0 : Vec Ideal S512x3840 .bf16) (k : ℕ) (h : k < 30) : FVec Ideal S512x128 .bf16 := View.ld x0 (rX k h)
/-- Column block `k` of the keep words. -/
abbrev kblk (kp : Vec Ideal S1x3840 .i32) (k : ℕ) (h : k < 30) : IVec S1x128 32 := View.ld kp (rK k h)
/-- Block `(ob, kb)` of the weight codes. -/
abbrev wcblk (x3 : Vec Ideal S1536x3840 .fp8e4m3) (ob kb : ℕ) (ho : ob < 12) (h : kb < 30) : FVec Ideal S128x128 .fp8e4m3 :=
  View.ld x3 (rW ob kb ho h)
/-- Entry `(ob, kb)` of the weight scales. -/
abbrev wsat (x4 : Vec Ideal S12x30 .f32) (ob kb : ℕ) (ho : ob < 12) (h : kb < 30) : Ideal .f32 := x4 (ix2 ⟨ob, ho⟩ ⟨kb, h⟩)

/-- A column lies in one of thirty blocks of 128. -/
theorem lt30 (y : Fin 3840) : y.val / 128 < 30 := by omega
/-- A row of the weight lies in one of twelve blocks of 128. -/
theorem lt12 (y : Fin 1536) : y.val / 128 < 12 := by omega
/-- A row of the weight lies in one of six tiles of 256. -/
theorem lt6 (y : Fin 1536) : y.val / 256 < 6 := by omega
/-- The place of a column inside its block of 128. -/
abbrev lo {n : ℕ} (y : Fin n) : Fin 128 := ⟨y.val % 128, Nat.mod_lt _ (by omega)⟩
/-- The place of a column inside its block of 256. -/
abbrev lo256 {n : ℕ} (y : Fin n) : Fin 256 := ⟨y.val % 256, Nat.mod_lt _ (by omega)⟩

/-! ## The arrays -/

/-- The keep words. -/
def keepRow (x1 : Vec Ideal S1x128 .i32) : Vec Ideal S1x3840 .i32 := fun y => keep x1 ((y 1).val / 128) (ix2 0 (lo (y 1)))

/-- The combined weight. -/
def weightT (x1 : Vec Ideal S1x128 .i32) (x2 : Vec Ideal S1536x128 .bf16) (x3 : Vec Ideal S1536x3840 .fp8e4m3)
    (x4 : Vec Ideal S12x30 .f32) : Vec Ideal S1536x3840 .bf16 := fun y =>
  wblk (F := Ideal) x1 x2 (wcblk x3 ((y 0).val / 128) ((y 1).val / 128) (lt12 (y 0)) (lt30 (y 1)))
    (wsat x4 ((y 0).val / 128) ((y 1).val / 128) (lt12 (y 0)) (lt30 (y 1)))
    ((y 1).val / 128) ((y 0).val / 128) (lt12 (y 0)) (ix2 (lo (y 0)) (lo (y 1)))

/-- The codes. -/
def codesT (x0 : Vec Ideal S512x3840 .bf16) (kp : Vec Ideal S1x3840 .i32) : Vec Ideal S512x3840 .fp8e4m3 := fun y =>
  codes (F := Ideal) (xblk x0 ((y 1).val / 128) (lt30 (y 1))) (kblk kp ((y 1).val / 128) (lt30 (y 1))) (ix2 (y 0) (lo (y 1)))

/-- The activations that meet the matrix unit. -/
def combT (x0 : Vec Ideal S512x3840 .bf16) (kp : Vec Ideal S1x3840 .i32) : Vec Ideal S512x3840 .bf16 := fun y =>
  comb (F := Ideal) (xblk x0 ((y 1).val / 128) (lt30 (y 1))) (kblk kp ((y 1).val / 128) (lt30 (y 1))) (ix2 (y 0) (lo (y 1)))

/-- The scales. -/
def scaleT (x0 : Vec Ideal S512x3840 .bf16) (kp : Vec Ideal S1x3840 .i32) : Vec Ideal S512x30 .f32 := fun y =>
  scales (F := Ideal) (xblk x0) (kblk kp) 30 (Nat.le_refl 30) (ix2 (y 0) ⟨(y 1).val, Nat.lt_of_lt_of_le (y 1).isLt (by decide)⟩)

/-- Columns `256 * n` on of the product. -/
def prodE (xc : FVec Ideal S512x3840 .bf16) (w : Vec Ideal S1536x3840 .bf16) (n : ℕ) (h : n < 6) : FVec Ideal S512x256 .f32 :=
  matmul (F := Ideal) dot_S512x3840_S256x3840_S512x256_1_1_0_0_n_n none xc (φ₁ := .bf16) (φ₂ := .bf16) (View.ld w (rR n h) : Vec Ideal S256x3840 .bf16)
    (constant S512x256 .f32 0x00000000#32)

/-- The product. -/
def prodT (xc : Vec Ideal S512x3840 .bf16) (w : Vec Ideal S1536x3840 .bf16) : Vec Ideal S512x1536 .bf16 := fun y =>
  prodE xc w ((y 1).val / 256) (lt6 (y 1)) (ix2 (y 0) (lo256 (y 1)))

/-- An index of a two-axis block is, in the whole array, the block's offset plus the index on each axis. -/
theorem emb2 {n0 n1 o0 o1 s0 s1 : ℕ} (inb : ∀ a, (![o0, o1] : Fin 2 → ℕ) a + (![s0, s1] : Fin 2 → ℕ) a ≤ (⟨2, ![n0, n1]⟩ : Shape).size a)
    (x : (⟨2, ![s0, s1]⟩ : Shape).Idx) (h0 : o0 + (x 0).val < n0) (h1 : o1 + (x 1).val < n1) :
    (Rect.unit (s := ⟨2, ![n0, n1]⟩) ![o0, o1] ![s0, s1] inb).emb x = ix2 ⟨o0 + (x 0).val, h0⟩ ⟨o1 + (x 1).val, h1⟩ := by
  funext a
  apply Fin.ext
  rw [Rect.emb_apply]
  match a with
  | ⟨0, _⟩ => show o0 + 1 * (x 0).val = o0 + (x 0).val; omega
  | ⟨1, _⟩ => show o1 + 1 * (x 1).val = o1 + (x 1).val; omega

/-- Membership of an index in a rectangle of a matrix, coordinate by coordinate. -/
theorem mem2 {n0 n1 o0 o1 s0 s1 : ℕ} (inb : ∀ a, (![o0, o1] : Fin 2 → ℕ) a + (![s0, s1] : Fin 2 → ℕ) a ≤ (⟨2, ![n0, n1]⟩ : Shape).size a)
    (y : (⟨2, ![n0, n1]⟩ : Shape).Idx) (h0 : o0 ≤ (y 0).val ∧ (y 0).val < o0 + s0) (h1 : o1 ≤ (y 1).val ∧ (y 1).val < o1 + s1) :
    y ∈ (Rect.unit (s := ⟨2, ![n0, n1]⟩) ![o0, o1] ![s0, s1] inb).set := by
  rw [Rect.mem_set_unit]
  intro a
  match a with
  | ⟨0, _⟩ => exact h0
  | ⟨1, _⟩ => exact h1

/-- The keep words' pieces leave the keep words. -/
theorem canon_K (x1 : Vec Ideal S1x128 .i32) : View.canon (piecesK (F := Ideal) x1) = keepRow x1 := by
  funext y
  have hy0 : (y 0).val < 1 := (y 0).isLt
  have hy1 : (y 1).val < 3840 := (y 1).isLt
  refine canon_items (fun k h => rK k h) _ (keepRow x1) ?_ y ((y 1).val / 128) (by omega) ?_
  swap; · exact mem2 (inbK _ (by omega)) y ⟨by omega, by omega⟩ ⟨by omega, by omega⟩
  intro k h x
  have hx0 : (x 0).val < 1 := (x 0).isLt
  have hx1 : (x 1).val < 128 := (x 1).isLt
  show shapeCast S1x128 (keep x1 k) shapeCasts_S1x128_S1x128 x = keepRow x1 ((rK k h).emb x)
  rw [shapeCast_self]
  refine Eq.trans ?_ (congrArg (keepRow x1) (emb2 (inbK k h) x (by omega) (by omega))).symm
  have e1 : (128 * k + (x 1).val) / 128 = k := by omega
  have e2 : (⟨(128 * k + (x 1).val) % 128, Nat.mod_lt _ (by omega)⟩ : Fin 128) = x 1 := Fin.ext (by show (128 * k + (x 1).val) % 128 = (x 1).val; omega)
  have e0 : (0 : Fin 1) = x 0 := Fin.ext (by show 0 = (x 0).val; omega)
  have key : ∀ (k' : ℕ) (z : S1x128.Idx), k' = k → z = x → keep x1 k' z = keep x1 k x := by
    intro k' z hk hz; subst hk; subst hz; rfl
  exact (key _ _ e1 ((congrArg₂ ix2 e0 e2).trans (eq_ix2 x).symm)).symm

/-- Column-block pieces of the activations' width leave, at an index, their block's payload. -/
theorem canon_cols {e : EltTy} (g : (k : ℕ) → k < 30 → S512x128.Idx → Elt Ideal e) :
    View.canon (items 30 (fun k h => (⟨rX k h, g k h⟩ : View.Piece (Elt Ideal) S512x3840 e)) 30 (Nat.le_refl 30))
      = fun y => g ((y 1).val / 128) (lt30 (y 1)) (ix2 (y 0) (lo (y 1))) := by
  funext y
  have hy0 : (y 0).val < 512 := (y 0).isLt
  have hy1 : (y 1).val < 3840 := (y 1).isLt
  refine canon_items (fun k h => rX k h) _ (fun y => g ((y 1).val / 128) (lt30 (y 1)) (ix2 (y 0) (lo (y 1)))) ?_ y ((y 1).val / 128) (by omega) ?_
  swap; · exact mem2 (inbX _ (by omega)) y ⟨by omega, by omega⟩ ⟨by omega, by omega⟩
  intro k h x
  have hx0 : (x 0).val < 512 := (x 0).isLt
  have hx1 : (x 1).val < 128 := (x 1).isLt
  show g k h x = (fun y : S512x3840.Idx => g ((y 1).val / 128) (lt30 (y 1)) (ix2 (y 0) (lo (y 1)))) ((rX k h).emb x)
  refine Eq.trans ?_ (congrArg (fun y : S512x3840.Idx => g ((y 1).val / 128) (lt30 (y 1)) (ix2 (y 0) (lo (y 1)))) (emb2 (inbX k h) x (by omega) (by omega))).symm
  have e1 : (128 * k + (x 1).val) / 128 = k := by omega
  have e2 : (⟨(128 * k + (x 1).val) % 128, Nat.mod_lt _ (by omega)⟩ : Fin 128) = x 1 := Fin.ext (by show (128 * k + (x 1).val) % 128 = (x 1).val; omega)
  have e0 : (⟨0 + (x 0).val, by omega⟩ : Fin 512) = x 0 := Fin.ext (Nat.zero_add _)
  have key : ∀ (k' : ℕ) (h' : k' < 30) (z : S512x128.Idx), k' = k → z = x → g k' h' z = g k h x := by
    intro k' h' z hk hz; subst hk; subst hz; rfl
  exact (key _ _ _ e1 ((congrArg₂ ix2 e0 e2).trans (eq_ix2 x).symm)).symm

/-- The combined weight's pieces leave, at an index, their block's payload. -/
theorem canon_W (x1 : Vec Ideal S1x128 .i32) (x2 : Vec Ideal S1536x128 .bf16) (x3 : Vec Ideal S1536x3840 .fp8e4m3)
    (x4 : Vec Ideal S12x30 .f32) : View.canon (piecesW (F := Ideal) x1 x2 (wcblk x3) (wsat x4)) = weightT x1 x2 x3 x4 := by
  funext y
  have hy0 : (y 0).val < 1536 := (y 0).isLt
  have hy1 : (y 1).val < 3840 := (y 1).isLt
  have hq : (12 * ((y 1).val / 128) + (y 0).val / 128) / 12 = (y 1).val / 128 := by omega
  have hr : (12 * ((y 1).val / 128) + (y 0).val / 128) % 12 = (y 0).val / 128 := by omega
  refine canon_items (fun i h => rW (i % 12) (i / 12) (Nat.mod_lt _ (by omega)) (by omega)) _ (weightT x1 x2 x3 x4) ?_ y (12 * ((y 1).val / 128) + (y 0).val / 128) (by omega) ?_
  swap; · exact mem2 (inbW _ _ (Nat.mod_lt _ (by omega)) (by omega)) y ⟨by rw [hr]; omega, by rw [hr]; omega⟩ ⟨by rw [hq]; omega, by rw [hq]; omega⟩
  intro i h x
  have hx0 : (x 0).val < 128 := (x 0).isLt
  have hx1 : (x 1).val < 128 := (x 1).isLt
  have ho : i % 12 < 12 := Nat.mod_lt _ (by omega)
  have hk : i / 12 < 30 := by omega
  refine Eq.trans ?_ (congrArg (weightT x1 x2 x3 x4) (emb2 (inbW (i % 12) (i / 12) ho hk) x (by omega) (by omega))).symm
  have e1 : (128 * (i / 12) + (x 1).val) / 128 = i / 12 := by omega
  have e0 : (128 * (i % 12) + (x 0).val) / 128 = i % 12 := by omega
  have f1 : (⟨(128 * (i / 12) + (x 1).val) % 128, Nat.mod_lt _ (by omega)⟩ : Fin 128) = x 1 := Fin.ext (by show (128 * (i / 12) + (x 1).val) % 128 = (x 1).val; omega)
  have f0 : (⟨(128 * (i % 12) + (x 0).val) % 128, Nat.mod_lt _ (by omega)⟩ : Fin 128) = x 0 := Fin.ext (by show (128 * (i % 12) + (x 0).val) % 128 = (x 0).val; omega)
  have key : ∀ (o k : ℕ) (ho' : o < 12) (hk' : k < 30) (z : S128x128.Idx), o = i % 12 → k = i / 12 → z = x →
      wblk (F := Ideal) x1 x2 (wcblk x3 o k ho' hk') (wsat x4 o k ho' hk') k o ho' z
        = wblk (F := Ideal) x1 x2 (wcblk x3 (i % 12) (i / 12) ho hk) (wsat x4 (i % 12) (i / 12) ho hk) (i / 12) (i % 12) ho x := by
    intro o k ho' hk' z h1 h2 hz; subst h1; subst h2; subst hz; rfl
  exact (key _ _ _ _ _ e0 e1 ((congrArg₂ ix2 f0 f1).trans (eq_ix2 x).symm)).symm

/-- The product's pieces leave the product. -/
theorem canon_Y (xc : Vec Ideal S512x3840 .bf16) (w : Vec Ideal S1536x3840 .bf16) :
    View.canon (piecesY (F := Ideal) xc (fun n h => View.ld w (rR n h))) = prodT xc w := by
  have hp : piecesY (F := Ideal) xc (fun n h => View.ld w (rR n h))
      = items 6 (fun n h => (⟨rY n h, truncf .bf16 (prodE xc w n h) bitsLt_bf16_f32⟩ : View.Piece (Elt Ideal) S512x1536 .bf16)) 6 (Nat.le_refl 6) := rfl
  rw [hp]
  funext y
  have hy0 : (y 0).val < 512 := (y 0).isLt
  have hy1 : (y 1).val < 1536 := (y 1).isLt
  refine canon_items (fun k h => rY k h) _ (prodT xc w) ?_ y ((y 1).val / 256) (by omega) ?_
  swap; · exact mem2 (inbY _ (by omega)) y ⟨by omega, by omega⟩ ⟨by omega, by omega⟩
  intro n h x
  have hx0 : (x 0).val < 512 := (x 0).isLt
  have hx1 : (x 1).val < 256 := (x 1).isLt
  rw [truncf_apply]
  refine Eq.trans ?_ (congrArg (prodT xc w) (emb2 (inbY n h) x (by omega) (by omega))).symm
  have e1 : (256 * n + (x 1).val) / 256 = n := by omega
  have f1 : (⟨(256 * n + (x 1).val) % 256, Nat.mod_lt _ (by omega)⟩ : Fin 256) = x 1 := Fin.ext (by show (256 * n + (x 1).val) % 256 = (x 1).val; omega)
  have f0 : (⟨0 + (x 0).val, by omega⟩ : Fin 512) = x 0 := Fin.ext (Nat.zero_add _)
  have key : ∀ (k : ℕ) (hk : k < 6) (z : S512x256.Idx), k = n → z = x → prodE xc w k hk z = prodE xc w n h x := by
    intro k hk z h1 hz; subst h1; subst hz; rfl
  exact (key _ (by omega) _ e1 ((congrArg₂ ix2 f0 f1).trans (eq_ix2 x).symm)).symm

/-- The scales' piece leaves the scales. -/
theorem canon_S (x0 : Vec Ideal S512x3840 .bf16) (kp : Vec Ideal S1x3840 .i32) :
    View.canon (piecesS (F := Ideal) (xblk x0) (kblk kp)) = scaleT x0 kp := by
  unfold piecesS
  rw [View.canon_cons_unit_zero (by funext a; match a with | ⟨0, _⟩ => rfl | ⟨1, _⟩ => rfl)]
  funext y
  unfold scaleT
  refine congrArg (scales (F := Ideal) (xblk x0) (kblk kp) 30 (Nat.le_refl 30)) ?_
  funext a
  apply Fin.ext
  match a with
  | ⟨0, _⟩ => exact Nat.zero_add _
  | ⟨1, _⟩ => exact Nat.zero_add _

/-! ## One grid point -/

section
variable (c : Dev nD) (i : grid0.Coords) (arg1 : Memref sig .tc .vmem S512x3840 .bf16) (harg1 : arg1.IsWhole) (arg2 : Memref sig .tc .vmem S1x128 .i32) (harg2 : arg2.IsWhole) (arg3 : Memref sig .tc .vmem S1536x128 .bf16) (harg3 : arg3.IsWhole) (arg4 : Memref sig .tc .vmem S1536x3840 .fp8e4m3) (harg4 : arg4.IsWhole) (arg5 : Memref sig .tc .smem S12x30 .f32) (harg5 : arg5.IsWhole) (arg6 : Memref sig .tc .vmem S512x1536 .bf16) (harg6 : arg6.IsWhole) (arg7 : Memref sig .tc .vmem S512x3840 .fp8e4m3) (harg7 : arg7.IsWhole) (arg8 : Memref sig .tc .vmem S512x30 .f32) (harg8 : arg8.IsWhole) (arg9 : Memref sig .tc .vmem S1x3840 .i32) (harg9 : arg9.IsWhole) (arg10 : Memref sig .tc .vmem S1536x3840 .bf16) (harg10 : arg10.IsWhole) (arg11 : Memref sig .tc .vmem S512x3840 .bf16) (harg11 : arg11.IsWhole)
  (x0 : Vec Ideal S512x3840 .bf16) (x1 : Vec Ideal S1x128 .i32) (x2 : Vec Ideal S1536x128 .bf16) (x3 : Vec Ideal S1536x3840 .fp8e4m3) (x4 : Vec Ideal S12x30 .f32)
  (xs0 : Vec Ideal S1x3840 .i32) (xs1 : Vec Ideal S1536x3840 .bf16)

/-- What a point reads of its activations are the blocks of the window's contents. -/
theorem xrd_eq : xrd arg1 harg1 x0 = xblk x0 := by
  funext k h; unfold xrd; rw [View.readAt_eq_ld, harg1.read_unread]
/-- At a later point, what is read of the keep words are the blocks of what the scratch holds. -/
theorem krdB_eq : krdB (F := Ideal) arg9 harg9 xs0 = kblk xs0 := by
  funext k h; unfold krdB; rw [View.readAt_eq_ld, harg9.read_unread]
/-- What a point reads of the outlier indices is the window's contents. -/
theorem ixrd_eq : ixrd (F := Ideal) arg2 harg2 x1 = x1 := by
  unfold ixrd; rw [View.readAt_eq_ld, harg2.read_unread]
  exact View.ld_unit_zero (by funext a; match a with | ⟨0, _⟩ => rfl | ⟨1, _⟩ => rfl) _ _
/-- What a point reads of the outlier weight is the window's contents. -/
theorem word_eq : word arg3 harg3 x2 = x2 := by
  unfold word; rw [View.readAt_eq_ld, harg3.read_unread]
  exact View.ld_unit_zero (by funext a; match a with | ⟨0, _⟩ => rfl | ⟨1, _⟩ => rfl) _ _
/-- What a point reads of the weight codes are the blocks of the window's contents. -/
theorem wcrd_eq : wcrd arg4 harg4 x3 = wcblk x3 := by
  funext ob kb ho h; unfold wcrd; rw [View.readAt_eq_ld, harg4.read_unread]
/-- What a point reads of the weight scales are the entries of the window's contents. -/
theorem wsrd_eq : wsrd arg5 harg5 x4 = wsat x4 := by
  funext ob kb ho h; unfold wsrd; rw [View.readAt_eq_ld, harg5.read_unread]
  refine congrArg x4 ?_
  refine (emb2 _ _ (by show ob + 0 < 12; omega) (by show kb + 0 < 30; omega)).trans ?_
  rfl
/-- At the first point, what is read of the keep words are the blocks of the row that the point stored. -/
theorem krdA_eq : krdA (F := Ideal) arg2 harg2 arg9 x1 = kblk (keepRow x1) := by
  funext k h; unfold krdA; rw [View.readCov_eq_canon', ixrd_eq, canon_K]; rfl
/-- At a later point, what is read of the combined weight are the tiles of what the scratch holds. -/
theorem wrowB_eq : wrowB arg10 harg10 xs1 = fun n h => View.ld xs1 (rR n h) := by
  funext k h; unfold wrowB; rw [View.readAt_eq_ld, harg10.read_unread]
/-- At the first point, what is read of the combined weight are the tiles of the weight that the point stored. -/
theorem wrowA_eq : wrowA arg2 harg2 arg3 harg3 arg4 harg4 arg5 harg5 arg10 x1 x2 x3 x4
    = fun n h => View.ld (weightT x1 x2 x3 x4) (rR n h) := by
  funext k h; unfold wrowA; rw [View.readCov_eq_canon', ixrd_eq, word_eq, wcrd_eq, wsrd_eq, canon_W]
/-- What is read of the combined activations is the whole block that the point stored. -/
theorem xcrd_eq (kp : Vec Ideal S1x3840 .i32) : xcrd arg11 (xblk x0) (kblk kp) = combT x0 kp := by
  unfold xcrd
  rw [View.readCov_eq_canon']
  unfold piecesX
  rw [canon_cols]
  exact View.ld_unit_zero (S := S512x3840) (by funext a; match a with | ⟨0, _⟩ => rfl | ⟨1, _⟩ => rfl) _ (combT x0 kp)

/-- The keep words after the point that builds the weight. -/
theorem sout0_A_0_eq (hc0 : cond0_0 i) : sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 = keepRow x1 := by
  unfold sout0_A_0; rw [View.read_writes_junk_eq_canon, pieces_AK, ixrd_eq, canon_K]

/-- The combined weight after the point that builds the weight. -/
theorem sout0_A_1_eq (hc0 : cond0_0 i) : sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 = weightT x1 x2 x3 x4 := by
  unfold sout0_A_1; rw [View.read_writes_junk_eq_canon, pieces_AW, ixrd_eq, word_eq, wcrd_eq, wsrd_eq, canon_W]

/-- The product after the point that builds the weight. -/
theorem out0_A_5_eq (hc0 : cond0_0 i) : out0_A_5 (F := Ideal) c i arg1 harg1 arg2 harg2 arg3 harg3 arg4 harg4 arg5 harg5 arg6 harg6 arg7 harg7 arg8 harg8 arg9 harg9 arg10 harg10 arg11 harg11 hc0 x0 x1 x2 x3 x4 = prodT (combT x0 (keepRow x1)) (weightT x1 x2 x3 x4) := by
  unfold out0_A_5; rw [View.read_writes_junk_eq_canon, pieces_A5, xrd_eq, krdA_eq, xcrd_eq, wrowA_eq, canon_Y]

/-- The codes after the point that builds the weight. -/
theorem out0_A_6_eq (hc0 : cond0_0 i) : out0_A_6 (F := Ideal) c i arg1 harg1 arg2 harg2 arg3 harg3 arg4 harg4 arg5 harg5 arg6 harg6 arg7 harg7 arg8 harg8 arg9 harg9 arg10 harg10 arg11 harg11 hc0 x0 x1 x2 x3 x4 = codesT x0 (keepRow x1) := by
  unfold out0_A_6; rw [View.read_writes_junk_eq_canon, pieces_A6, xrd_eq, krdA_eq]; unfold piecesC; rw [canon_cols]; rfl

/-- The scales after the point that builds the weight. -/
theorem out0_A_7_eq (hc0 : cond0_0 i) : out0_A_7 (F := Ideal) c i arg1 harg1 arg2 harg2 arg3 harg3 arg4 harg4 arg5 harg5 arg6 harg6 arg7 harg7 arg8 harg8 arg9 harg9 arg10 harg10 arg11 harg11 hc0 x0 x1 x2 x3 x4 = scaleT x0 (keepRow x1) := by
  unfold out0_A_7; rw [View.read_writes_junk_eq_canon, pieces_A7, xrd_eq, krdA_eq, canon_S]

/-- The product after a point that finds the weight built. -/
theorem out0_B_5_eq (hc0 : ¬cond0_0 i) : out0_B_5 (F := Ideal) c i arg1 harg1 arg2 harg2 arg3 harg3 arg4 harg4 arg5 harg5 arg6 harg6 arg7 harg7 arg8 harg8 arg9 harg9 arg10 harg10 arg11 harg11 hc0 x0 x1 x2 x3 x4 xs0 xs1 = prodT (combT x0 xs0) xs1 := by
  unfold out0_B_5; rw [View.read_writes_junk_eq_canon, pieces_B5, xrd_eq, krdB_eq, xcrd_eq, wrowB_eq, canon_Y]

/-- The codes after a point that finds the weight built. -/
theorem out0_B_6_eq (hc0 : ¬cond0_0 i) : out0_B_6 (F := Ideal) c i arg1 harg1 arg2 harg2 arg3 harg3 arg4 harg4 arg5 harg5 arg6 harg6 arg7 harg7 arg8 harg8 arg9 harg9 arg10 harg10 arg11 harg11 hc0 x0 x1 x2 x3 x4 xs0 xs1 = codesT x0 xs0 := by
  unfold out0_B_6; rw [View.read_writes_junk_eq_canon, pieces_B6, xrd_eq, krdB_eq]; unfold piecesC; rw [canon_cols]; rfl

/-- The scales after a point that finds the weight built. -/
theorem out0_B_7_eq (hc0 : ¬cond0_0 i) : out0_B_7 (F := Ideal) c i arg1 harg1 arg2 harg2 arg3 harg3 arg4 harg4 arg5 harg5 arg6 harg6 arg7 harg7 arg8 harg8 arg9 harg9 arg10 harg10 arg11 harg11 hc0 x0 x1 x2 x3 x4 xs0 xs1 = scaleT x0 xs0 := by
  unfold out0_B_7; rw [View.read_writes_junk_eq_canon, pieces_B7, xrd_eq, krdB_eq, canon_S]

end

end Cert.KernelIdeal.Blocks

end
-- ==== Proof.KRead.lean ====
/-
  The kernel's blocks read entry by entry: with the outlier columns marked by negative keep words elsewhere, one block's
  scales, codes and dequantised values are the formulas of the model.
-/
module

public import proofs.«01_k».proof.Proof.Holds
public import proofs.«01_k».proof.Proof.Model
public import Idealize.ShloMosaic.Lib.ValueLayout
public import Idealize.ShloMosaic.Lib.ValueLayoutCasts

@[expose] public section

noncomputable section

namespace Cert.KernelIdeal.Blocks

open Cert.KernelIdeal Cert.KernelIdeal.Gen Idealize.ShloMosaic Idealize.ShloMosaic.TcCoe Idealize.ShloMosaic.ValueIdx
open Cert.Scale Cert.Model Cert.Consts

/-- The keep words mark the outlier columns. -/
def Marks (kp : Vec Ideal S1x3840 .i32) (ix : Fin 128 → BitVec 32) : Prop :=
  ∀ d : Fin 3840, IntOp.cmpi .slt (kp (ix2 0 d) : BitVec 32) 0#32 = bit (¬ isOut ix d)

/-- A row of the activations' block. -/
def row (x0 : Vec Ideal S512x3840 .bf16) (t : Fin 512) : Fin 3840 → EReal := fun d => x0 (ix2 t d)

variable (x0 : Vec Ideal S512x3840 .bf16) (kp : Vec Ideal S1x3840 .i32) (ix : Fin 128 → BitVec 32)

/-- A block of the activations, entry by entry: the row at the block's column. -/
theorem xblk_apply (g : Fin 30) (t : Fin 512) (l : Fin 128) : xblk x0 g.val g.isLt (ix2 t l) = row x0 t (Model.col g l) := by
  have e := emb2 (inbX g.val g.isLt) (ix2 t l) (by show 0 + t.val < 512; omega) (by show 128 * g.val + l.val < 3840; omega)
  show x0 ((rX g.val g.isLt).emb (ix2 t l)) = _
  rw [show (rX g.val g.isLt).emb (ix2 t l) = _ from e]
  have e0 : (⟨0 + t.val, by omega⟩ : Fin 512) = t := Fin.ext (Nat.zero_add _)
  exact congrArg x0 (congrArg₂ ix2 e0 rfl)

/-- A block of the keep words, entry by entry. -/
theorem kblk_apply (g : Fin 30) (l : Fin 128) : kblk kp g.val g.isLt (ix2 0 l) = kp (ix2 0 (Model.col g l)) := by
  have e := emb2 (inbK g.val g.isLt) (ix2 0 l) (by show 0 + 0 < 1; omega) (by show 128 * g.val + l.val < 3840; omega)
  show kp ((rK g.val g.isLt).emb (ix2 0 l)) = _
  rw [show (rK g.val g.isLt).emb (ix2 0 l) = _ from e]
  rfl

/-- The body reads its block as it is. -/
theorem xin_apply (xb : FVec Ideal S512x128 .bf16) : xin xb = xb := shapeCast_self _ _

variable {kp ix} (hm : Marks kp ix)
include hm

/-- The keep mask is set where the column is not an outlier. -/
theorem keepMask_apply (g : Fin 30) (t : Fin 512) (l : Fin 128) :
    keepMask (kblk kp g.val g.isLt) (ix2 t l) = bit (¬ isOut ix (Model.col g l)) := by
  unfold keepMask
  rw [broadcastTo_1b_ab_apply, shapeCast_self]
  show IntOp.cmpi .slt (kblk kp g.val g.isLt (ix2 0 l)) 0#32 = _
  rw [kblk_apply]
  exact hm _

/-- The masked block is the row with its outliers set to zero. -/
theorem xz_apply (g : Fin 30) (t : Fin 512) (l : Fin 128) :
    xz (xblk x0 g.val g.isLt) (kblk kp g.val g.isLt) (ix2 t l) = z ix (row x0 t) (Model.col g l) := by
  unfold xz
  rw [select_apply, keepMask_apply hm, select_bit, xin_apply, xblk_apply]
  unfold z
  by_cases h : isOut ix (Model.col g l)
  · rw [if_neg (not_not.2 h), if_pos h]; exact b_zero
  · rw [if_pos h, if_neg h]

/-- The block maximum, at every column of the block. -/
theorem amax_apply (g : Fin 30) (t : Fin 512) (l : Fin 128) :
    Blocks.amax (xblk x0 g.val g.isLt) (kblk kp g.val g.isLt) (ix2 t l) = Model.amax ix (row x0 t) g := by
  unfold Blocks.amax
  rw [broadcastTo_apply _ _ (ix2 t l) (ix2 t 0) (fun a => by match a with | ⟨0, _⟩ => rfl | ⟨1, _⟩ => rfl), shapeCast_self,
    shapeCast_a_a1_apply]
  refine (Ideal.multiReduction_maximumf_single (s := S512x128) (a := (1 : Fin 2)) _ _ _ _ _ _).trans ?_
  unfold Model.amax
  show Finset.fold max (Ideal.ofBits .bf16 0xFF80#16) _ (Finset.univ : Finset (Fin 128)) = _
  rw [b_bot]
  refine congrArg (fun f => Finset.fold max ⊥ f (Finset.univ : Finset (Fin 128))) (funext fun (k : Fin 128) => ?_)
  have e : (reduces_S512x128_S512 : S512x128.Reduces [1] S512).lift (ix1 t) k = ix2 t k := by
    funext a
    apply Fin.ext
    refine (Shape.Reduces.lift_val _ _ _ a).trans ?_
    match a with
    | ⟨0, _⟩ => rfl
    | ⟨1, _⟩ => rfl
  show (fun i => absf (xz (xblk x0 g.val g.isLt) (kblk kp g.val g.isLt)) i) ((reduces_S512x128_S512 : S512x128.Reduces [1] S512).lift (ix1 t) k) = _
  rw [e]
  show max (xz (xblk x0 g.val g.isLt) (kblk kp g.val g.isLt) (ix2 t k)) (-(xz (xblk x0 g.val g.isLt) (kblk kp g.val g.isLt) (ix2 t k))) = _
  rw [xz_apply x0 hm]

omit hm in
/-- One step of the search for the power of two, entry by entry. -/
theorem step_apply (cl p : FVec Ideal S512x128 .bf16) (w : BitVec 16) (i : S512x128.Idx) :
    step cl p w i = stepS (cl i) (p i) (Ideal.ofBits .bf16 w) := by
  unfold step stepS
  rw [select_apply, cmpf_apply]
  show Scalar.select (Ideal.cmp .oge (cl i) (p i * Ideal.ofBits .bf16 w * Ideal.ofBits .bf16 0x3FE0#16)) (p i * Ideal.ofBits .bf16 w) (p i) = _
  rw [b_seven]
  unfold Ideal.cmp
  rw [bit_ofBool, select_bit]

omit hm in
/-- The search for the power of two, entry by entry. -/
theorem pow2_apply (cl : FVec Ideal S512x128 .bf16) (i : S512x128.Idx) : pow2 cl i = search (cl i) := by
  unfold pow2 search
  rw [mulf_apply]
  simp only [step_apply]
  show stepS _ (stepS _ (stepS _ (stepS _ (stepS _ (stepS _ (stepS _ (stepS _ (Ideal.ofBits .bf16 0x0480#16) _) _) _) _) _) _) _) _
    * Ideal.ofBits .bf16 0x3C00#16 = _
  rw [b_start, b_123, b_61, b_31, b_15, b_8, b_4, b_2, b_1, b_last]

/-- The block's scale, at every column of the block. -/
theorem scale_apply (g : Fin 30) (t : Fin 512) (l : Fin 128) :
    scale (xblk x0 g.val g.isLt) (kblk kp g.val g.isLt) (ix2 t l) = sc ix (row x0 t) g := by
  unfold scale
  rw [select_apply, cmpf_apply, pow2_apply, maximumf_apply, amax_apply x0 hm]
  show Scalar.select (Ideal.cmp .oge (Model.amax ix (row x0 t) g) (Ideal.ofBits .bf16 0x04E0#16))
    (search (max (Model.amax ix (row x0 t) g) (Ideal.ofBits .bf16 0x04E0#16))) (Ideal.ofBits .bf16 0x3F80#16) = _
  rw [b_tiny, b_one]
  unfold Ideal.cmp
  rw [bit_ofBool, select_bit]
  unfold sc
  rw [← scaleK_eq_scaleR]
  unfold scaleK
  rfl

/-- The block's codes, entry by entry. -/
theorem codes_apply (g : Fin 30) (t : Fin 512) (l : Fin 128) :
    codes (F := Ideal) (xblk x0 g.val g.isLt) (kblk kp g.val g.isLt) (ix2 t l) = code ix (row x0 t) (Model.col g l) := by
  unfold codes
  rw [truncf_apply, minimumf_apply, maximumf_apply, mulf_apply, divf_apply, xz_apply x0 hm, scale_apply x0 hm]
  show min (max (_ * Ideal.div (Ideal.ofBits .bf16 0x3F80#16) _) (Ideal.ofBits .bf16 0xC3E0#16)) (Ideal.ofBits .bf16 0x43E0#16) = _
  rw [b_one, b_n448, b_448]
  unfold code
  rw [blockOf_col, min_comm, max_comm]

/-- The block's combined activations, entry by entry. -/
theorem comb_apply (g : Fin 30) (t : Fin 512) (l : Fin 128) :
    comb (F := Ideal) (xblk x0 g.val g.isLt) (kblk kp g.val g.isLt) (ix2 t l) = xc ix (row x0 t) (Model.col g l) := by
  unfold comb
  rw [shapeCast_self, select_apply, keepMask_apply hm, select_bit, mulf_apply, extf_apply, codes_apply x0 hm, scale_apply x0 hm,
    xin_apply, xblk_apply]
  unfold xc
  rw [blockOf_col]
  by_cases h : isOut ix (Model.col g l)
  · rw [if_neg (not_not.2 h), if_pos h]
  · rw [if_pos h, if_neg h]

omit hm in
/-- A column is the column of its block at its place inside the block. -/
theorem col_split (d : Fin 3840) : Model.col (blockOf d) (lo d) = d := Fin.ext (by show 128 * (d.val / 128) + d.val % 128 = d.val; omega)

/-- The codes of all the blocks, entry by entry. -/
theorem codesT_apply (t : Fin 512) (d : Fin 3840) : codesT x0 kp (ix2 t d) = code ix (row x0 t) d := by
  have h := codes_apply x0 hm (blockOf d) t (lo d)
  rw [col_split] at h
  exact h

/-- The combined activations of all the blocks, entry by entry. -/
theorem combT_apply (t : Fin 512) (d : Fin 3840) : combT x0 kp (ix2 t d) = xc ix (row x0 t) d := by
  have h := comb_apply x0 hm (blockOf d) t (lo d)
  rw [col_split] at h
  exact h

omit hm in
/-- Lane `l` of the lane numbers is `l`. -/
theorem lane_apply (l : Fin 128) : lane (ix2 0 l) = BitVec.ofNat 32 l.val :=
  congrArg (BitVec.ofNat 32) (by show 0 * 128 + l.val = l.val; omega)

/-- Lane `k` of the scales of the first `n` blocks, for `k` below `n`, is block `k`'s scale. -/
theorem scales_apply (t : Fin 512) (k : Fin 30) : ∀ (n : ℕ) (h : n ≤ 30), k.val < n →
    scales (F := Ideal) (xblk x0) (kblk kp) n h (ix2 t ⟨k.val, by omega⟩) = sc ix (row x0 t) k
  | 0, _, hk => absurd hk (Nat.not_lt_zero _)
  | n + 1, h, hk => by
    unfold scales
    rw [select_apply, broadcastTo_1b_ab_apply, shapeCast_self]
    have hl : (cmpi .eq lane (broadcast S1x128 (BitVec.ofNat 32 n)) : IVec S1x128 1) (ix2 0 (⟨k.val, by omega⟩ : Fin 128))
        = IntOp.cmpi .eq (BitVec.ofNat 32 k.val) (BitVec.ofNat 32 n) := by
      show IntOp.cmpi .eq (lane (ix2 0 (⟨k.val, by omega⟩ : Fin 128))) (BitVec.ofNat 32 n) = _
      rw [lane_apply]
    rw [hl]
    have hc : IntOp.cmpi .eq (BitVec.ofNat 32 k.val) (BitVec.ofNat 32 n) = bit (k.val = n) := by
      show BitVec.ofBool (BitVec.ofNat 32 k.val == BitVec.ofNat 32 n) = _
      have : (BitVec.ofNat 32 k.val == BitVec.ofNat 32 n) = decide (k.val = n) := by
        rw [Bool.eq_iff_iff, beq_iff_eq, decide_eq_true_iff, ← BitVec.toNat_inj, BitVec.toNat_ofNat, BitVec.toNat_ofNat]
        omega
      rw [this, bit_ofBool]
    rw [hc, select_bit]
    by_cases e : k.val = n
    · rw [if_pos e, extf_apply]
      subst e
      exact scale_apply x0 hm k t _
    · rw [if_neg e]
      exact scales_apply t k n (Nat.le_of_succ_le h) (by omega)

/-- The scales of all the blocks, entry by entry. -/
theorem scaleT_apply (t : Fin 512) (k : Fin 30) : scaleT x0 kp (ix2 t k) = sc ix (row x0 t) k :=
  scales_apply x0 hm t k 30 (Nat.le_refl 30) k.isLt

end Cert.KernelIdeal.Blocks

end
-- ==== Proof.Count.lean ====
/-
  Counting with strictly ascending indices: how many equal a channel number, and how many lie below one that is met.
-/
module

public import proofs.«01_k».proof.Proof.Model

@[expose] public section

noncomputable section

namespace Cert.Model

open Idealize.ShloMosaic

variable {ix : Fin 128 → BitVec 32}

/-- Strictly ascending neighbours make a strictly ascending sequence of signed values. -/
theorem mono (h : Inc ix) : StrictMono fun j => (ix j).toInt := by
  have h' : StrictMono (fun j : Fin (127 + 1) => (ix j).toInt) := by
    refine Fin.strictMono_iff_lt_succ.2 fun i => ?_
    have e := h i.castSucc (by show i.val + 1 < 128; omega)
    exact BitVec.slt_iff_toInt_lt.1 e
  exact h'

/-- No two outlier indices are equal. -/
theorem inj (h : Inc ix) {i j : Fin 128} (e : ix i = ix j) : i = j :=
  (mono h).injective (congrArg BitVec.toInt e)

/-- At most one index equals a given word; exactly one, if any does. -/
theorem card_eq (h : Inc ix) (c : BitVec 32) :
    (Finset.univ.filter fun j => ix j = c).card = if ∃ j, ix j = c then 1 else 0 := by
  by_cases e : ∃ j, ix j = c
  · obtain ⟨j0, e0⟩ := e
    rw [if_pos ⟨j0, e0⟩, Finset.card_eq_one]
    refine ⟨j0, Finset.ext fun j => ?_⟩
    rw [Finset.mem_filter, Finset.mem_singleton]
    exact ⟨fun hj => inj h (hj.2.trans e0.symm), fun hj => ⟨Finset.mem_univ _, hj ▸ e0⟩⟩
  · rw [if_neg e, Finset.card_eq_zero, Finset.filter_eq_empty_iff]
    exact fun j _ hj => e ⟨j, hj⟩

/-- The number of indices below a met one is its position. -/
theorem card_slt (h : Inc ix) (j0 : Fin 128) :
    (Finset.univ.filter fun j => (ix j).slt (ix j0) = true).card = j0.val := by
  have e : (Finset.univ.filter fun j => (ix j).slt (ix j0) = true) = Finset.Iio j0 := by
    refine Finset.ext fun j => ?_
    rw [Finset.mem_filter, Finset.mem_Iio, BitVec.slt_iff_toInt_lt]
    exact ⟨fun hj => (mono h).lt_iff_lt.1 hj.2, fun hj => ⟨Finset.mem_univ _, (mono h).lt_iff_lt.2 hj⟩⟩
  rw [e, Fin.card_Iio]

/-- The summed outlier weight at an outlier column is the one entry that names it. -/
theorem wout_eq (h : Inc ix) (wo : Fin 128 → EReal) (d : Fin 3840) (j0 : Fin 128) (e : ix j0 = BitVec.ofNat 32 d.val) :
    wout ix wo d = wo j0 := by
  unfold wout
  rw [Finset.sum_eq_single j0]
  · rw [if_pos e, mul_one]
  · intro j _ hj
    rw [if_neg (fun e' => hj (inj h (e'.trans e.symm))), mul_zero]
  · exact fun hj => absurd (Finset.mem_univ _) hj

end Cert.Model

end
-- ==== Proof.KWeight.lean ====
/-
  The kernel's keep words and its combined weight read entry by entry, for strictly ascending outlier indices; and its
  product as the model's sum.
-/
module

public import proofs.«01_k».proof.Proof.KRead
public import proofs.«01_k».proof.Proof.Count
public import Idealize.ShloMosaic.Lib.IndicatorCount
public import Idealize.ShloMosaic.Lib.PlanTiles.Rows
public import Idealize.ShloMosaic.Lib.MatmulPlain

@[expose] public section

noncomputable section

namespace Cert.KernelIdeal.Blocks

open Cert.KernelIdeal Cert.KernelIdeal.Gen Idealize.ShloMosaic Idealize.ShloMosaic.TcCoe Idealize.ShloMosaic.ValueIdx
open Cert.Scale Cert.Model Cert.Consts

/-- The outlier indices of the one-row table. -/
def words (x1 : Vec Ideal S1x128 .i32) : Fin 128 → BitVec 32 := fun j => x1 (ix2 0 j)

variable (x1 : Vec Ideal S1x128 .i32)

/-- Row `j` of the index table is outlier index `j`. -/
theorem col_apply (j l : Fin 128) : Blocks.col x1 (ix2 j l) = words x1 j := by
  unfold Blocks.col
  refine (transpose_apply _ _ _ (ix2 j l) (ix2 l j) (fun b => by match b with | ⟨0, _⟩ => rfl | ⟨1, _⟩ => rfl)).trans ?_
  rw [broadcastTo_1b_ab_apply, shapeCast_self, shapeCast_self]
  rfl

/-- The channel numbers of a block. -/
theorem chan_apply (g : Fin 30) (l : Fin 128) : chan g.val (ix2 0 l) = BitVec.ofNat 32 (Model.col g l).val := by
  show lane (ix2 0 l) + BitVec.ofNat 32 (128 * g.val) = _
  rw [lane_apply, ← BitVec.ofNat_add, Nat.add_comm]
  rfl

/-- A bit chosen between the words one and zero is the bit as a word. -/
theorem bit_word (b : BitVec 1) : Scalar.select b (1#32) (0#32) = b.setWidth 32 := by
  revert b; decide

/-- A count over the outlier indices is the number of indices that compare true with the channel. -/
theorem count_apply (p : CmpIPredicate) (g : Fin 30) (l : Fin 128) :
    count p x1 g.val (ix2 0 l) = BitVec.ofNat 32
      (Finset.univ.filter fun j => IntOp.cmpi p (words x1 j) (BitVec.ofNat 32 (Model.col g l).val) = 1#1).card := by
  unfold count
  rw [shapeCast_a_1a_apply]
  refine (multiReductionI_eq_fold _ _ _ _ _ _).trans ?_
  refine (Shape.Reduces.fold_filter_drop_single (s := S128x128) (a := (0 : Fin 2)) _ IntOp.addi _ _ _).trans ?_
  rw [← IndicatorCount.fold_addi_setWidth_eq_card]
  refine congrArg (fun f => Finset.fold IntOp.addi 0#32 f (Finset.univ : Finset (Fin 128))) (funext fun (j : Fin 128) => ?_)
  have e : (reduces_S128x128_S128 : S128x128.Reduces [0] S128).lift (ix1 l) j = ix2 j l := by
    funext a
    apply Fin.ext
    refine (Shape.Reduces.lift_val _ _ _ a).trans ?_
    match a with
    | ⟨0, _⟩ => rfl
    | ⟨1, _⟩ => rfl
  show (select (cmpi p (Blocks.col x1) (broadcastTo S128x128 (chan g.val) broadcasts_S1x128_S128x128))
    (broadcast S128x128 1#32) (broadcast S128x128 0#32) : IVec S128x128 32) ((reduces_S128x128_S128 : S128x128.Reduces [0] S128).lift (ix1 l) j) = _
  rw [e, select_apply, broadcast_apply, broadcast_apply, bit_word]
  show (IntOp.cmpi p (Blocks.col x1 (ix2 j l)) (broadcastTo S128x128 (chan g.val) broadcasts_S1x128_S128x128 (ix2 j l))).setWidth 32 = _
  rw [col_apply, broadcastTo_1b_ab_apply, chan_apply]

/-- A truth value as a bit is one exactly if it is true. -/
theorem ofBool_one (b : Bool) : BitVec.ofBool b = 1#1 ↔ b = true := by revert b; decide

variable {x1} (hi : Inc (words x1))
include hi

/-- The count of the indices that equal a channel is one for an outlier and zero otherwise. -/
theorem count_eq (g : Fin 30) (l : Fin 128) :
    count .eq x1 g.val (ix2 0 l) = if isOut (words x1) (Model.col g l) then 1#32 else 0#32 := by
  rw [count_apply]
  have e : (Finset.univ.filter fun j => IntOp.cmpi .eq (words x1 j) (BitVec.ofNat 32 (Model.col g l).val) = 1#1)
      = Finset.univ.filter fun j => words x1 j = BitVec.ofNat 32 (Model.col g l).val := by
    refine Finset.filter_congr fun j _ => ?_
    show BitVec.ofBool (words x1 j == BitVec.ofNat 32 (Model.col g l).val) = 1#1 ↔ _
    rw [ofBool_one, beq_iff_eq]
  rw [e, card_eq hi]
  by_cases h : isOut (words x1) (Model.col g l)
  · rw [if_pos h, if_pos (show ∃ j, words x1 j = BitVec.ofNat 32 (Model.col g l).val from h)]
  · rw [if_neg h, if_neg (show ¬ ∃ j, words x1 j = BitVec.ofNat 32 (Model.col g l).val from h)]

/-- The keep word is negative exactly where the column is not an outlier. -/
theorem keep_slt (g : Fin 30) (l : Fin 128) :
    IntOp.cmpi .slt (keep x1 g.val (ix2 0 l)) 0#32 = bit (¬ isOut (words x1) (Model.col g l)) := by
  show IntOp.cmpi .slt (count .eq x1 g.val (ix2 0 l) - 1#32) 0#32 = _
  rw [count_eq hi]
  unfold bit
  by_cases h : isOut (words x1) (Model.col g l)
  · rw [if_pos h, if_neg (not_not.2 h)]; decide
  · rw [if_neg h, if_pos h]; decide

/-- The keep words mark the outlier columns. -/
theorem marks : Marks (keepRow x1) (words x1) := by
  intro d
  have h := keep_slt hi (blockOf d) (lo d)
  rw [col_split] at h
  exact h

/-- At an outlier's channel the rank is the outlier's position. -/
theorem rank_apply (g : Fin 30) (l j0 : Fin 128) (e : words x1 j0 = BitVec.ofNat 32 (Model.col g l).val) :
    rank x1 g.val (ix2 0 l) = BitVec.ofNat 32 j0.val := by
  show IntOp.minsi (count .slt x1 g.val (ix2 0 l)) 127#32 = _
  rw [count_apply]
  have e' : (Finset.univ.filter fun j => IntOp.cmpi .slt (words x1 j) (BitVec.ofNat 32 (Model.col g l).val) = 1#1)
      = Finset.univ.filter fun j => (words x1 j).slt (words x1 j0) = true := by
    refine Finset.filter_congr fun j _ => ?_
    show BitVec.ofBool ((words x1 j).slt (BitVec.ofNat 32 (Model.col g l).val)) = 1#1 ↔ _
    rw [ofBool_one, e]
  rw [e', card_slt hi, PlanTiles.minsi_word (by omega) (by omega)]
  congr 1
  omega

/-- At an outlier column the gather reads the outlier's own place. -/
theorem gidx_apply (g : Fin 30) (o l j0 : Fin 128) (e : words x1 j0 = BitVec.ofNat 32 (Model.col g l).val) :
    gidx x1 g.val (ix2 o l) = BitVec.ofNat 32 j0.val := by
  unfold gidx
  rw [shapeCast_shapeCast, select_apply]
  have hb : rankB x1 g.val (ix2 o l) = BitVec.ofNat 32 j0.val := by
    unfold rankB
    rw [broadcastTo_1b_ab_apply, shapeCast_self, rank_apply hi g l j0 e]
  show Scalar.select (IntOp.cmpi .slt (rankB x1 g.val (ix2 o l)) 0#32) (rankB x1 g.val (ix2 o l) + 128#32) (rankB x1 g.val (ix2 o l)) = _
  rw [hb]
  have hs : IntOp.cmpi .slt (BitVec.ofNat 32 j0.val) 0#32 = 0#1 := by
    show BitVec.ofBool ((BitVec.ofNat 32 j0.val).slt (BitVec.ofNat 32 0)) = 0#1
    rw [Routing.slt_ofNat32 (by omega) (by omega)]
    rfl
  rw [hs, select_zero]

/-- At an outlier column the gathered weight is the outlier's column of the outlier weight. -/
theorem wout_apply (x2 : Vec Ideal S1536x128 .bf16) (g : Fin 30) (ob : ℕ) (h : ob < 12) (o l j0 : Fin 128)
    (e : words x1 j0 = BitVec.ofNat 32 (Model.col g l).val) :
    Blocks.wout (F := Ideal) x1 x2 g.val ob h (ix2 o l) = x2 (ix2 ⟨128 * ob + o.val, by omega⟩ j0) := by
  unfold Blocks.wout
  rw [ValueIdx.truncf_apply]
  unfold dynamicGather
  refine (extractStridedSlice_apply _ _ _ _ (ix2 ⟨128 * ob + o.val, by omega⟩ j0) fun a => ?_).trans (ValueIdx.extf_apply ..)
  match a with
  | ⟨0, _⟩ => rfl
  | ⟨1, _⟩ =>
    show j0.val = 0 + (gidx x1 g.val (ix2 o l)).toNat % 128
    rw [gidx_apply hi g o l j0 e, BitVec.toNat_ofNat]
    omega

/-- The combined weight is the model's. -/
theorem weightT_apply (x2 : Vec Ideal S1536x128 .bf16) (x3 : Vec Ideal S1536x3840 .fp8e4m3) (x4 : Vec Ideal S12x30 .f32)
    (o : Fin 1536) (d : Fin 3840) :
    weightT x1 x2 x3 x4 (ix2 o d) = wc (words x1) (fun j => x2 (ix2 o j)) (fun d => x3 (ix2 o d))
      (fun k => x4 (ix2 ⟨o.val / 128, lt12 o⟩ k)) d := by
  show wblk (F := Ideal) x1 x2 (wcblk x3 (o.val / 128) (blockOf d).val (lt12 o) (lt30 d)) (wsat x4 (o.val / 128) (blockOf d).val (lt12 o) (lt30 d))
    (blockOf d).val (o.val / 128) (lt12 o) (ix2 (lo o) (lo d)) = _
  unfold wblk
  rw [shapeCast_self, select_apply, broadcastTo_1b_ab_apply, shapeCast_self]
  show Scalar.select (IntOp.cmpi .slt (keep x1 (blockOf d).val (ix2 0 (lo d))) 0#32) _ _ = _
  rw [keep_slt hi, select_bit, col_split]
  have ho : (⟨128 * (o.val / 128) + (lo o).val, by have := o.isLt; show 128 * (o.val / 128) + o.val % 128 < 1536; omega⟩ : Fin 1536) = o :=
    Fin.ext (by show 128 * (o.val / 128) + o.val % 128 = o.val; omega)
  unfold wc
  by_cases h : isOut (words x1) d
  · rw [if_neg (not_not.2 h), if_pos h]
    obtain ⟨j0, e⟩ := h
    rw [wout_eq hi _ d j0 e]
    have e' : words x1 j0 = BitVec.ofNat 32 (Model.col (blockOf d) (lo d)).val := by rw [col_split]; exact e
    rw [wout_apply hi x2 (blockOf d) (o.val / 128) (lt12 o) (lo o) (lo d) j0 e']
    exact congrArg x2 (congrArg₂ ix2 ho rfl)
  · rw [if_pos h, if_neg h]
    unfold wdeq
    rw [ValueIdx.mulf_apply, ValueIdx.extf_apply, ValueIdx.truncf_apply, broadcast_apply]
    have e2 := emb2 (inbW (o.val / 128) (blockOf d).val (lt12 o) (lt30 d)) (ix2 (lo o) (lo d))
      (by have := o.isLt; show 128 * (o.val / 128) + o.val % 128 < 1536; omega)
      (by have := d.isLt; show 128 * (d.val / 128) + d.val % 128 < 3840; omega)
    have e3 : wcblk x3 (o.val / 128) (blockOf d).val (lt12 o) (lt30 d) (ix2 (lo o) (lo d)) = x3 (ix2 o d) :=
      (congrArg x3 e2).trans (congrArg x3 (congrArg₂ ix2 ho (col_split d)))
    rw [e3]

omit hi in
/-- The kernel's product takes the second operand transposed. -/
theorem dotP : dot_S512x3840_S256x3840_S512x256_1_1_0_0_n_n = DotDims.transposedRhs 512 3840 256 := rfl

omit hi in
/-- The kernel's product is the sum over the columns. -/
theorem prodT_apply (xc : Vec Ideal S512x3840 .bf16) (w : Vec Ideal S1536x3840 .bf16) (t : Fin 512) (o : Fin 1536) :
    prodT xc w (ix2 t o) = ∑ d : Fin 3840, xc (ix2 t d) * w (ix2 o d) := by
  show prodE xc w (o.val / 256) (lt6 o) (ix2 t (lo256 o)) = _
  unfold prodE
  rw [dotP]
  refine (Ideal.matmul_transposedRhs_apply ..).trans ?_
  show Ideal.ofBits .f32 0x00000000#32 + _ = _
  rw [f_zero, zero_add]
  refine Finset.sum_congr rfl fun d _ => ?_
  have e2 := emb2 (inbR (o.val / 256) (lt6 o)) (ix2 (lo256 o) d)
    (by have := o.isLt; show 256 * (o.val / 256) + o.val % 256 < 1536; omega) (by have := d.isLt; show 0 + d.val < 3840; omega)
  have e3 : (View.ld w (rR (o.val / 256) (lt6 o)) : Vec Ideal S256x3840 .bf16) (ix2 (lo256 o) d) = w (ix2 o d) :=
    (congrArg w e2).trans (congrArg w (congrArg₂ ix2 (Fin.ext (by show 256 * (o.val / 256) + o.val % 256 = o.val; omega))
      (Fin.ext (Nat.zero_add _))))
  rw [e3]

/-- The kernel's product of the combined operands is the model's. -/
theorem y_apply (x0 : Vec Ideal S512x3840 .bf16) (x2 : Vec Ideal S1536x128 .bf16) (x3 : Vec Ideal S1536x3840 .fp8e4m3)
    (x4 : Vec Ideal S12x30 .f32) (t : Fin 512) (o : Fin 1536) :
    prodT (combT x0 (keepRow x1)) (weightT x1 x2 x3 x4) (ix2 t o) = Model.y (words x1) (row x0 t) (fun j => x2 (ix2 o j))
      (fun d => x3 (ix2 o d)) (fun k => x4 (ix2 ⟨o.val / 128, lt12 o⟩ k)) := by
  rw [prodT_apply]
  unfold Model.y
  refine Finset.sum_congr rfl fun d _ => ?_
  rw [combT_apply x0 (marks hi), weightT_apply hi]

end Cert.KernelIdeal.Blocks

end
-- ==== Proof.Fold.lean ====
/-
  What the kernel's result arrays hold: every grid point finds the keep words and the combined weight of the first point,
  so each result block is one function of that point's block of activations.
-/
module

public import proofs.«01_k».proof.Proof.Holds
public import proofs.«01_k».proof.Proof.Gen.KernelIdeal.Value

@[expose] public section

noncomputable section

namespace Cert.KernelIdeal.Blocks

open Cert.KernelIdeal Cert.KernelIdeal.Gen Cert.KernelIdeal.Value Idealize.ShloMosaic Idealize.ShloMosaic.TcCoe Idealize.ShloMosaic.ValueIdx

variable (m : (ℓ : Loc nD τ sig) → Buf (Elt Ideal) ℓ)

/-- The first grid point. -/
def t0 : Fin cfg0.N := ⟨0, by rw [show cfg0.N = 12 from N_0]; omega⟩

/-- The keep words that the first point builds. -/
def K0 (c : Dev nD) : Vec Ideal S1x3840 .i32 := keepRow (iblk m c 1 t0)
/-- The combined weight that the first point builds. -/
def W0 (c : Dev nD) : Vec Ideal S1536x3840 .bf16 := weightT (iblk m c 1 t0) (iblk m c 2 t0) (iblk m c 3 t0) (iblk m c 4 t0)

/-- What a point leaves, over its block of activations. -/
def st (c : Dev nD) (t : Fin cfg0.N) : Vec Ideal S512x1536 .bf16 × Vec Ideal S512x3840 .fp8e4m3 × Vec Ideal S512x30 .f32 × Vec Ideal S1x3840 .i32 × Vec Ideal S1536x3840 .bf16 :=
  (prodT (combT (iblk m c 0 t) (K0 m c)) (W0 m c), codesT (iblk m c 0 t) (K0 m c), scaleT (iblk m c 0 t) (K0 m c), K0 m c, W0 m c)

/-- A point that builds the weight, when it is the first. -/
theorem st_A (c : Dev nD) (acc) : stAt0 m c t0.val t0.isLt acc = st m c t0 := by
  rw [stAt0_A m c t0 acc (Nat.zero_mod _), out0_A_5_eq, out0_A_6_eq, out0_A_7_eq, sout0_A_0_eq, sout0_A_1_eq]
  unfold st K0 W0
  with_reducible rfl

/-- A point that finds the weight built. -/
theorem st_B (c : Dev nD) (t : Fin cfg0.N) (h : ¬t.val % 12 = 0) (s : Fin cfg0.N) : stAt0 m c t.val t.isLt (st m c s) = st m c t := by
  rw [stAt0_B m c t _ h, out0_B_5_eq, out0_B_6_eq, out0_B_7_eq]
  unfold sout0_B_0 sout0_B_1 st
  with_reducible rfl

/-- What point `n` leaves. -/
theorem fold_eq (c : Dev nD) : ∀ (n : ℕ) (h : 0 + n < cfg0.N),
    Pipeline.accAt (fun n h => stAt0 m c n h junk0) (stAt0 m c) 0 n h = st m c ⟨0 + n, h⟩
  | 0, h => by
    rw [Pipeline.accAt_zero]
    exact st_A m c junk0
  | n + 1, h => by
    rw [Pipeline.accAt_succ, fold_eq c n]
    have hN : 0 + (n + 1) < 12 := lt_of_lt_of_eq h (show cfg0.N = 12 from N_0)
    exact st_B m c ⟨0 + (n + 1), h⟩ (by show ¬(0 + (n + 1)) % 12 = 0; omega) _

/-- A row of the array lies in one of the twelve points' blocks. -/
theorem pt_lt (r : Fin 6144) : r.val / 512 < cfg0.N := by rw [show cfg0.N = 12 from N_0]; omega
/-- The point that holds a row. -/
def ptOf (r : Fin 6144) : Fin cfg0.N := ⟨r.val / 512, pt_lt r⟩
/-- The row's place in its point's block. -/
def rowIn (r : Fin 6144) : Fin 512 := ⟨r.val % 512, Nat.mod_lt _ (by omega)⟩

/-- Result 1, entry by entry. -/
theorem G5_eq (c : Dev nD) (r : Fin 6144) (d : Fin 1536) :
    G5 m c (ix2 r d) = prodT (combT (iblk m c 0 (ptOf r)) (K0 m c)) (W0 m c) (ix2 (rowIn r) d) := by
  have hr := r.isLt
  have hd := d.isLt
  have hp : pt5Of (ix2 r d) = r.val / 512 := by
    show 1 * (r.val / 512 - 0) + 1 * (d.val / 1536 - 0) = r.val / 512
    omega
  unfold G5
  rw [dif_pos (by rw [hp]; exact pt_lt r), fold_eq]
  have e : (⟨0 + pt5Of (ix2 r d), by rw [hp, Nat.zero_add]; exact pt_lt r⟩ : Fin cfg0.N) = ptOf r :=
    Fin.ext (by show 0 + pt5Of (ix2 r d) = r.val / 512; rw [hp, Nat.zero_add])
  rw [e]
  refine congrArg (st m c (ptOf r)).1 ?_
  funext a
  apply Fin.ext
  match a with
  | ⟨0, _⟩ => rfl
  | ⟨1, _⟩ => exact Nat.mod_eq_of_lt hd

/-- Result 2, entry by entry. -/
theorem G6_eq (c : Dev nD) (r : Fin 6144) (d : Fin 3840) :
    G6 m c (ix2 r d) = codesT (iblk m c 0 (ptOf r)) (K0 m c) (ix2 (rowIn r) d) := by
  have hr := r.isLt
  have hd := d.isLt
  have hp : pt6Of (ix2 r d) = r.val / 512 := by
    show 1 * (r.val / 512 - 0) + 1 * (d.val / 3840 - 0) = r.val / 512
    omega
  unfold G6
  rw [dif_pos (by rw [hp]; exact pt_lt r), fold_eq]
  have e : (⟨0 + pt6Of (ix2 r d), by rw [hp, Nat.zero_add]; exact pt_lt r⟩ : Fin cfg0.N) = ptOf r :=
    Fin.ext (by show 0 + pt6Of (ix2 r d) = r.val / 512; rw [hp, Nat.zero_add])
  rw [e]
  refine congrArg (st m c (ptOf r)).2.1 ?_
  funext a
  apply Fin.ext
  match a with
  | ⟨0, _⟩ => rfl
  | ⟨1, _⟩ => exact Nat.mod_eq_of_lt hd

/-- Result 3, entry by entry. -/
theorem G7_eq (c : Dev nD) (r : Fin 6144) (d : Fin 30) :
    G7 m c (ix2 r d) = scaleT (iblk m c 0 (ptOf r)) (K0 m c) (ix2 (rowIn r) d) := by
  have hr := r.isLt
  have hd := d.isLt
  have hp : pt7Of (ix2 r d) = r.val / 512 := by
    show 1 * (r.val / 512 - 0) + 1 * (d.val / 30 - 0) = r.val / 512
    omega
  unfold G7
  rw [dif_pos (by rw [hp]; exact pt_lt r), fold_eq]
  have e : (⟨0 + pt7Of (ix2 r d), by rw [hp, Nat.zero_add]; exact pt_lt r⟩ : Fin cfg0.N) = ptOf r :=
    Fin.ext (by show 0 + pt7Of (ix2 r d) = r.val / 512; rw [hp, Nat.zero_add])
  rw [e]
  refine congrArg (st m c (ptOf r)).2.2.1 ?_
  funext a
  apply Fin.ext
  match a with
  | ⟨0, _⟩ => rfl
  | ⟨1, _⟩ => exact Nat.mod_eq_of_lt hd

/-! ## The blocks that a point reads -/

/-- Input window 0's block moves by rows; the others are whole. -/
theorem idx_in : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

/-- The block of activations of the point that holds row `r`. -/
theorem iblk0_eq (c : Dev nD) (r : Fin 6144) (d : Fin 3840) :
    (iblk m c 0 (ptOf r) : Vec Ideal S512x3840 .bf16) (ix2 (rowIn r) d) = (V m c main_v0 : Vec Ideal S6144x3840 .bf16) (ix2 r d) := by
  obtain ⟨e0, e1, _⟩ := idx_in (ptOf r)
  refine congrArg (V m c main_v0 : Vec Ideal S6144x3840 .bf16) ?_
  funext a
  apply Fin.ext
  match a with
  | ⟨0, _⟩ =>
    show win0_0.index (ptOf r) (0 : Fin 2) * 512 + 1 * (r.val % 512) = r.val
    rw [e0]; show r.val / 512 * 512 + 1 * (r.val % 512) = r.val; omega
  | ⟨1, _⟩ =>
    show win0_0.index (ptOf r) (1 : Fin 2) * 3840 + 1 * d.val = d.val
    rw [e1]; omega

/-- Input window 1's block is its whole array. -/
theorem iblk1_eq (c : Dev nD) : (iblk m c 1 t0 : Vec Ideal S1x128 .i32) = (V m c main_v1 : Vec Ideal S1x128 .i32) := by
  obtain ⟨_, _, e0, e1, _⟩ := idx_in t0
  funext y
  refine congrArg (V m c main_v1 : Vec Ideal S1x128 .i32) ?_
  funext a
  apply Fin.ext
  match a with
  | ⟨0, _⟩ => show win0_1.index t0 (0 : Fin 2) * 1 + 1 * (y 0).val = (y 0).val; rw [e0]; omega
  | ⟨1, _⟩ => show win0_1.index t0 (1 : Fin 2) * 128 + 1 * (y 1).val = (y 1).val; rw [e1]; omega

/-- Input window 2's block is its whole array. -/
theorem iblk2_eq (c : Dev nD) : (iblk m c 2 t0 : Vec Ideal S1536x128 .bf16) = (V m c main_arg2 : Vec Ideal S1536x128 .bf16) := by
  obtain ⟨_, _, _, _, e0, e1, _⟩ := idx_in t0
  funext y
  refine congrArg (V m c main_arg2 : Vec Ideal S1536x128 .bf16) ?_
  funext a
  apply Fin.ext
  match a with
  | ⟨0, _⟩ => show win0_2.index t0 (0 : Fin 2) * 1536 + 1 * (y 0).val = (y 0).val; rw [e0]; omega
  | ⟨1, _⟩ => show win0_2.index t0 (1 : Fin 2) * 128 + 1 * (y 1).val = (y 1).val; rw [e1]; omega

/-- Input window 3's block is its whole array. -/
theorem iblk3_eq (c : Dev nD) : (iblk m c 3 t0 : Vec Ideal S1536x3840 .fp8e4m3) = (V m c main_arg3 : Vec Ideal S1536x3840 .fp8e4m3) := by
  obtain ⟨_, _, _, _, _, _, e0, e1, _⟩ := idx_in t0
  funext y
  refine congrArg (V m c main_arg3 : Vec Ideal S1536x3840 .fp8e4m3) ?_
  funext a
  apply Fin.ext
  match a with
  | ⟨0, _⟩ => show win0_3.index t0 (0 : Fin 2) * 1536 + 1 * (y 0).val = (y 0).val; rw [e0]; omega
  | ⟨1, _⟩ => show win0_3.index t0 (1 : Fin 2) * 3840 + 1 * (y 1).val = (y 1).val; rw [e1]; omega

/-- Input window 4's block is its whole array. -/
theorem iblk4_eq (c : Dev nD) : (iblk m c 4 t0 : Vec Ideal S12x30 .f32) = (V m c main_arg4 : Vec Ideal S12x30 .f32) := by
  obtain ⟨_, _, _, _, _, _, _, _, e0, e1⟩ := idx_in t0
  funext y
  refine congrArg (V m c main_arg4 : Vec Ideal S12x30 .f32) ?_
  funext a
  apply Fin.ext
  match a with
  | ⟨0, _⟩ => show win0_4.index t0 (0 : Fin 2) * 12 + 1 * (y 0).val = (y 0).val; rw [e0]; omega
  | ⟨1, _⟩ => show win0_4.index t0 (1 : Fin 2) * 30 + 1 * (y 1).val = (y 1).val; rw [e1]; omega

/-- The activations as the region finds them: the argument, its two leading axes as one. -/
theorem V_main_v0 (c : Dev nD) : (V m c main_v0 : Vec Ideal S6144x3840 .bf16)
    = shapeCast S6144x3840 (m ((c : Thread nD τ).loc main_arg0) : Vec Ideal S2x3072x3840 .bf16) shapeCasts_S2x3072x3840_S6144x3840 := by
  rfl

/-- The outlier indices as the region finds them: the argument, as one row. -/
theorem V_main_v1 (c : Dev nD) : (V m c main_v1 : Vec Ideal S1x128 .i32)
    = shapeCast S1x128 (m ((c : Thread nD τ).loc main_arg1) : Vec Ideal S128 .i32) shapeCasts_S128_S1x128 := by
  rfl

end Cert.KernelIdeal.Blocks

end
-- ==== Proof.KValue.lean ====
/-
  The kernel's three results as the model's formulas of the kernel's arguments.
-/
module

public import proofs.«01_k».proof.Proof.KWeight
public import proofs.«01_k».proof.Proof.Fold

@[expose] public section

noncomputable section

namespace Cert.KernelIdeal.Blocks

open Cert.KernelIdeal Cert.KernelIdeal.Gen Cert.KernelIdeal.Value Idealize.ShloMosaic Idealize.ShloMosaic.TcCoe
open Idealize.ShloMosaic.ValueIdx

variable (m : (ℓ : Loc nD τ sig) → Buf (Elt Ideal) ℓ)

/-- The outlier indices that the body reads are the argument's. -/
theorem words_iblk (c : Dev nD) : words (iblk m c 1 t0) = fun j => (m ((c : Thread nD τ).loc main_arg1) : Vec Ideal S128 .i32) (ix1 j) := by
  funext j
  show (iblk m c 1 t0 : Vec Ideal S1x128 .i32) (ValueIdx.ix2 0 j) = _
  rw [iblk1_eq m c, V_main_v1 m c]
  exact shapeCast_a_1a_apply _ _ 0 j

/-- A row of a grid point's block of activations is the row of the argument. -/
theorem row_iblk (c : Dev nD) (r : Fin 6144) : row (iblk m c 0 (ptOf r)) (rowIn r)
    = fun d => shapeCast S6144x3840 (m ((c : Thread nD τ).loc main_arg0) : Vec Ideal S2x3072x3840 .bf16) shapeCasts_S2x3072x3840_S6144x3840 (ix2 r d) := by
  funext d
  exact (iblk0_eq m c r d).trans (congrFun (V_main_v0 m c) _)

/-- Result 1 of the kernel, entry by entry. -/
theorem G5_apply (c : Dev nD) (hi : Model.Inc (fun j => (m ((c : Thread nD τ).loc main_arg1) : Vec Ideal S128 .i32) (ix1 j))) (r : Fin 6144) (o : Fin 1536) :
    (G5 m c : Vec Ideal S6144x1536 .bf16) (ix2 r o)
      = Model.y (fun j => (m ((c : Thread nD τ).loc main_arg1) : Vec Ideal S128 .i32) (ix1 j))
        (fun d => shapeCast S6144x3840 (m ((c : Thread nD τ).loc main_arg0) : Vec Ideal S2x3072x3840 .bf16) shapeCasts_S2x3072x3840_S6144x3840 (ix2 r d))
        (fun j => (m ((c : Thread nD τ).loc main_arg2) : Vec Ideal S1536x128 .bf16) (ix2 o j))
        (fun d => (m ((c : Thread nD τ).loc main_arg3) : Vec Ideal S1536x3840 .fp8e4m3) (ix2 o d))
        (fun k => (m ((c : Thread nD τ).loc main_arg4) : Vec Ideal S12x30 .f32) (ix2 ⟨o.val / 128, by omega⟩ k)) := by
  rw [← words_iblk m c] at hi
  refine (G5_eq m c r o).trans ((y_apply hi _ _ _ _ _ _).trans ?_)
  rw [words_iblk m c, row_iblk m c r, iblk2_eq m c, iblk3_eq m c, iblk4_eq m c, V_main_arg2 m c, V_main_arg3 m c, V_main_arg4 m c]

/-- Result 2 of the kernel, entry by entry. -/
theorem G6_apply (c : Dev nD) (hi : Model.Inc (fun j => (m ((c : Thread nD τ).loc main_arg1) : Vec Ideal S128 .i32) (ix1 j))) (r : Fin 6144) (d : Fin 3840) :
    (G6 m c : Vec Ideal S6144x3840 .fp8e4m3) (ix2 r d)
      = Model.code (fun j => (m ((c : Thread nD τ).loc main_arg1) : Vec Ideal S128 .i32) (ix1 j))
        (fun d => shapeCast S6144x3840 (m ((c : Thread nD τ).loc main_arg0) : Vec Ideal S2x3072x3840 .bf16) shapeCasts_S2x3072x3840_S6144x3840 (ix2 r d)) d := by
  rw [← words_iblk m c] at hi
  refine (G6_eq m c r d).trans ((codesT_apply _ (marks hi) _ _).trans ?_)
  rw [words_iblk m c, row_iblk m c r]

/-- Result 3 of the kernel, entry by entry. -/
theorem G7_apply (c : Dev nD) (hi : Model.Inc (fun j => (m ((c : Thread nD τ).loc main_arg1) : Vec Ideal S128 .i32) (ix1 j))) (r : Fin 6144) (g : Fin 30) :
    (G7 m c : Vec Ideal S6144x30 .f32) (ix2 r g)
      = Model.sc (fun j => (m ((c : Thread nD τ).loc main_arg1) : Vec Ideal S128 .i32) (ix1 j))
        (fun d => shapeCast S6144x3840 (m ((c : Thread nD τ).loc main_arg0) : Vec Ideal S2x3072x3840 .bf16) shapeCasts_S2x3072x3840_S6144x3840 (ix2 r d)) g := by
  rw [← words_iblk m c] at hi
  refine (G7_eq m c r g).trans ((scaleT_apply _ (marks hi) _ _).trans ?_)
  rw [words_iblk m c, row_iblk m c r]

end Cert.KernelIdeal.Blocks

end
-- ==== Proof.RefRead.lean ====
/-
  The reference's quantiser read entry by entry: its mask, its scales and its codes are the model's.
-/
module

public import proofs.«01_k».proof.Proof.Gen.ReferenceIdeal.Skeleton
public import proofs.«01_k».proof.Proof.Model
public import proofs.«01_k».proof.Proof.Count
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.IndicatorCount
public import Idealize.ShloMosaic.Lib.Routing.BitFacts
public import Idealize.ShloMosaic.Lib.Pipeline.Value

@[expose] public section

noncomputable section

namespace Cert.ReferenceIdeal.Read

open Cert.ReferenceIdeal Cert.ReferenceIdeal.Gen Idealize.ShloMosaic Idealize.ShloMosaic.ValueIdx
open Cert.Scale Cert.Model Cert.Consts

/-- The outlier indices of the one-column table. -/
def words (x1 : Vec Ideal S128x1 .i32) : Fin 128 → BitVec 32 := fun j => x1 (ix2 j 0)

/-- A row of the activations. -/
def row (x0 : Vec Ideal S6144x3840 .bf16) (r : Fin 6144) : Fin 3840 → EReal := fun d => x0 (ix2 r d)

/-- A cast to the same shape changes nothing. -/
theorem shapeCast_id {α : Type} {s : Shape} (x : s.Idx → α) (h : s.ShapeCasts s) : shapeCast s x h = x := shapeCast_self x h

section
variable (x1 : Vec Ideal S128x1 .i32)

/-- The one-hot table: entry `(j, d)` says that outlier `j` is column `d`. -/
theorem hot_apply (j : Fin 128) (d : Fin 3840) : k0_pay3 (F := Ideal) x1 (ix2 j d) = bit (words x1 j = BitVec.ofNat 32 d.val) := by
  unfold k0_pay3
  show IntOp.cmpi .eq (broadcastTo S128x3840 (shapeCast S128x1 x1 shapeCasts_S128x1_S128x1) broadcasts_S128x1_S128x3840 (ix2 j d))
    (iota .tc S128x3840 32 [1] iota_S128x3840_d1_w32 (ix2 j d)) = _
  rw [broadcastTo_apply _ _ (ix2 j d) (ix2 j 0) (fun a => by match a with | ⟨0, _⟩ => rfl | ⟨1, _⟩ => rfl), shapeCast_id,
    iota_single_apply]
  show BitVec.ofBool (x1 (ix2 j 0) == BitVec.ofNat 32 d.val) = _
  rw [← bit_ofBool, beq_eq_decide]
  rfl

/-- The bit of a proposition is one exactly if the proposition holds. -/
theorem bit_one (p : Prop) : bit p = 1#1 ↔ p := by
  unfold bit
  by_cases h : p
  · rw [if_pos h]; exact ⟨fun _ => h, fun _ => rfl⟩
  · rw [if_neg h]; exact ⟨fun e => absurd e (by decide), fun e => absurd e h⟩

/-- A bit chosen between the words one and zero is the bit as a word. -/
theorem bit_word (b : BitVec 1) : Scalar.select b (1#32) (0#32) = b.setWidth 32 := by
  revert b; decide

/-- The mask marks the outlier columns. -/
theorem mask_apply (d : Fin 3840) : k0_pay4 (F := Ideal) x1 (ix2 0 d) = bit (isOut (words x1) d) := by
  unfold k0_pay4
  show IntOp.cmpi .sgt (shapeCast S1x3840 (multiReductionI .add [0] S3840 (select (k0_pay3 (F := Ideal) x1)
    (broadcast S128x3840 1#32) (broadcast S128x3840 0#32)) 0#32 reduces_S128x3840_S3840 rfl) shapeCasts_S3840_S1x3840 (ix2 0 d)) 0#32 = _
  rw [shapeCast_a_1a_apply]
  have e : multiReductionI .add [0] S3840 (select (k0_pay3 (F := Ideal) x1)
      (broadcast S128x3840 1#32) (broadcast S128x3840 0#32)) 0#32 reduces_S128x3840_S3840 rfl (ix1 d)
      = BitVec.ofNat 32 (Finset.univ.filter fun j => bit (words x1 j = BitVec.ofNat 32 d.val) = 1#1).card := by
    refine (multiReductionI_eq_fold _ _ _ _ _ _).trans ?_
    refine (Shape.Reduces.fold_filter_drop_single (s := S128x3840) (a := (0 : Fin 2)) _ IntOp.addi _ _ _).trans ?_
    rw [← IndicatorCount.fold_addi_setWidth_eq_card]
    refine congrArg (fun f => Finset.fold IntOp.addi 0#32 f (Finset.univ : Finset (Fin 128))) (funext fun (j : Fin 128) => ?_)
    have e : (reduces_S128x3840_S3840 : S128x3840.Reduces [0] S3840).lift (ix1 d) j = ix2 j d := by
      funext a
      apply Fin.ext
      refine (Shape.Reduces.lift_val _ _ _ a).trans ?_
      match a with
      | ⟨0, _⟩ => rfl
      | ⟨1, _⟩ => rfl
    show (select (k0_pay3 (F := Ideal) x1) (broadcast S128x3840 1#32) (broadcast S128x3840 0#32) : IVec S128x3840 32)
      ((reduces_S128x3840_S3840 : S128x3840.Reduces [0] S3840).lift (ix1 d) j) = _
    rw [e, select_apply, broadcast_apply, broadcast_apply, bit_word, hot_apply]
  rw [e]
  have hc : (Finset.univ.filter fun j => bit (words x1 j = BitVec.ofNat 32 d.val) = 1#1).card ≤ 128 :=
    (Finset.card_le_univ _).trans (by simp)
  show BitVec.ofBool ((BitVec.ofNat 32 0).slt (BitVec.ofNat 32 _)) = _
  rw [Routing.slt_ofNat32 (by omega) (by omega), bit_ofBool]
  refine bit_congr ?_
  rw [Finset.card_pos]
  constructor
  · rintro ⟨j, hj⟩
    exact ⟨j, (bit_one _).1 (Finset.mem_filter.1 hj).2⟩
  · rintro ⟨j, hj⟩
    exact ⟨j, Finset.mem_filter.2 ⟨Finset.mem_univ _, (bit_one _).2 hj⟩⟩

variable (x0 : Vec Ideal S6144x3840 .bf16)

/-- The activations with the outlier columns set to zero, in blocks. -/
theorem z_apply (r : Fin 6144) (g : Fin 30) (l : Fin 128) :
    k0_pay5 (F := Ideal) x0 x1 (ix3 r g l) = z (words x1) (row x0 r) (col g l) := by
  unfold k0_pay5
  refine (shapeCast_apply _ _ (ix3 r g l) (ix2 r (col g l)) ?_).trans ?_
  · rw [Shape.rowMajor_val_two, Shape.rowMajor_val_three]
    show r.val * 3840 + (128 * g.val + l.val) = (r.val * 30 + g.val) * 128 + l.val
    omega
  · rw [select_apply, broadcastTo_1b_ab_apply, shapeCast_id, mask_apply, select_bit, broadcast_apply]
    unfold k0_pay2 z
    rw [shapeCast_id]
    by_cases h : isOut (words x1) (col g l)
    · rw [if_pos h, if_pos h]; exact b_zero
    · rw [if_neg h, if_neg h]; rfl

/-- A trailing axis of size one is read at zero. -/
theorem cast31 {α : Type} (x : S6144x30.Idx → α) (r : Fin 6144) (g : Fin 30) :
    shapeCast S6144x30x1 x shapeCasts_S6144x30_S6144x30x1 (ix3 r g 0) = x (ix2 r g) := by
  refine shapeCast_apply _ _ _ _ ?_
  rw [Shape.rowMajor_val_two, Shape.rowMajor_val_three]
  show r.val * 30 + g.val = (r.val * 30 + g.val) * 1 + 0
  omega

/-- The quotient of a block's greatest magnitude by 448. -/
theorem quot_apply (r : Fin 6144) (g : Fin 30) :
    k0_pay6 (F := Ideal) x0 x1 (ix3 r g 0) = quot (amax (words x1) (row x0 r) g) := by
  have ha : multiReduction .maximumf [2] S6144x30 (absf (k0_pay5 (F := Ideal) x0 x1)) 0xFF80#16 reduces_S6144x30x128_S6144x30 (.inr rfl) rfl (ix2 r g)
      = amax (words x1) (row x0 r) g := by
    refine (Ideal.multiReduction_maximumf_single (s := S6144x30x128) (a := (2 : Fin 3)) _ _ _ _ _ _).trans ?_
    unfold amax
    show Finset.fold max (Ideal.ofBits .bf16 0xFF80#16) _ (Finset.univ : Finset (Fin 128)) = _
    rw [b_bot]
    refine congrArg (fun f => Finset.fold max ⊥ f (Finset.univ : Finset (Fin 128))) (funext fun (k : Fin 128) => ?_)
    have e : (reduces_S6144x30x128_S6144x30 : S6144x30x128.Reduces [2] S6144x30).lift (ix2 r g) k = ix3 r g k := by
      funext a
      apply Fin.ext
      refine (Shape.Reduces.lift_val _ _ _ a).trans ?_
      match a with
      | ⟨0, _⟩ => rfl
      | ⟨1, _⟩ => rfl
      | ⟨2, _⟩ => rfl
    show (fun i => absf (k0_pay5 (F := Ideal) x0 x1) i) ((reduces_S6144x30x128_S6144x30 : S6144x30x128.Reduces [2] S6144x30).lift (ix2 r g) k) = _
    rw [e]
    show max (k0_pay5 (F := Ideal) x0 x1 (ix3 r g k)) (-(k0_pay5 (F := Ideal) x0 x1 (ix3 r g k))) = _
    rw [z_apply]
  unfold k0_pay6
  dsimp only
  rw [select_apply, cmpf_apply, divf_apply, extf_apply, cast31, ha]
  show Scalar.select (Ideal.cmp .oge (Ideal.div _ (Ideal.ofBits .f32 0x43E00000#32)) (Ideal.ofBits .f32 0x00800000#32))
    (Ideal.div _ (Ideal.ofBits .f32 0x43E00000#32)) (Ideal.ofBits .f32 0x00000000#32) = _
  rw [f_448, f_min, f_zero]
  unfold Ideal.cmp
  rw [bit_ofBool, select_bit]
  rfl

/-- Entry `j` of the table of powers is two to the power `j - 125`. -/
theorem pow_apply (j : Fin 246) :
    Ideal.exp2 ((((BitVec.ofNat 32 j.val).toInt : ℝ) : EReal) - ((125 : ℝ) : EReal)) = tw ((j.val : ℤ) - 125) := by
  have e : (BitVec.ofNat 32 j.val).toInt = (j.val : ℤ) := by
    rw [BitVec.toInt_eq_toNat_of_lt (by rw [BitVec.toNat_ofNat]; omega), BitVec.toNat_ofNat]
    omega
  rw [e, ← EReal.coe_sub, Ideal.exp2_coe]
  unfold tw
  congr 1
  show (2 : ℝ) ^ (((j.val : ℤ) : ℝ) - 125) = _
  rw [← Real.rpow_intCast]
  congr 1
  push_cast
  rfl

/-- The table of powers of two against the quotient. -/
theorem entry_apply (r : Fin 6144) (g : Fin 30) (j : Fin 246) :
    k0_pay7 (F := Ideal) x0 x1 (ix3 r g j) = entry (quot (amax (words x1) (row x0 r) g)) j.val := by
  unfold k0_pay7
  dsimp only
  have hb : ∀ (v : FVec Ideal S1x1x246 .f32), broadcastTo S6144x30x246 v broadcasts_S1x1x246_S6144x30x246 (ix3 r g j) = v (ix3 0 0 j) :=
    fun v => broadcastTo_apply _ _ _ _ (fun a => by match a with | ⟨0, _⟩ => rfl | ⟨1, _⟩ => rfl | ⟨2, _⟩ => rfl)
  have hq : broadcastTo S6144x30x246 (k0_pay6 (F := Ideal) x0 x1) broadcasts_S6144x30x1_S6144x30x246 (ix3 r g j) = k0_pay6 (F := Ideal) x0 x1 (ix3 r g 0) :=
    broadcastTo_apply _ _ _ _ (fun a => by match a with | ⟨0, _⟩ => rfl | ⟨1, _⟩ => rfl | ⟨2, _⟩ => rfl)
  rw [select_apply, cmpf_apply, shapeCast_id, hb, hq, quot_apply]
  have hp : exp2 (subf (sitofp .f32 (iota .tc S1x1x246 32 [2] iota_S1x1x246_d2_w32))
      (broadcast S1x1x246 (Scalar.ofBits .f32 0x42FA0000#32 : Ideal .f32))) (ix3 0 0 j) = tw ((j.val : ℤ) - 125) := by
    show Ideal.exp2 ((((iota .tc S1x1x246 32 [2] iota_S1x1x246_d2_w32 (ix3 0 0 j)).toInt : ℝ) : EReal) - Ideal.ofBits .f32 0x42FA0000#32) = _
    rw [iota_single_apply, f_125]
    exact pow_apply j
  rw [hp]
  show Scalar.select (Ideal.cmp .ogt (tw ((j.val : ℤ) - 125)) (quot (amax (words x1) (row x0 r) g))) (tw ((j.val : ℤ) - 125))
    (Ideal.ofBits .f32 0x7B800000#32) = _
  rw [f_120]
  unfold Ideal.cmp
  rw [bit_ofBool, select_bit]
  rfl

/-- The scales. -/
theorem sc3_apply (r : Fin 6144) (g : Fin 30) :
    k0_pay8 (F := Ideal) (k0_pay6 x0 x1) (k0_pay7 x0 x1) (ix3 r g 0) = sc (words x1) (row x0 r) g := by
  have ha : multiReduction .minimumf [2] S6144x30 (k0_pay7 (F := Ideal) x0 x1) 0x7F800000#32 reduces_S6144x30x246_S6144x30 (.inl rfl) rfl (ix2 r g)
      = (Finset.univ : Finset (Fin 246)).fold min ⊤ (fun j => entry (quot (amax (words x1) (row x0 r) g)) j.val) := by
    refine (multiReduction_minimumf_eq_fold _ _ _ _ _ _).trans ?_
    refine (Shape.Reduces.fold_filter_drop_single (s := S6144x30x246) (a := (2 : Fin 3)) _ _ _ _ _).trans ?_
    show Finset.fold min (Ideal.ofBits .f32 0x7F800000#32) _ (Finset.univ : Finset (Fin 246)) = _
    rw [f_top]
    refine congrArg (fun f => Finset.fold min ⊤ f (Finset.univ : Finset (Fin 246))) (funext fun (k : Fin 246) => ?_)
    have e : (reduces_S6144x30x246_S6144x30 : S6144x30x246.Reduces [2] S6144x30).lift (ix2 r g) k = ix3 r g k := by
      funext a
      apply Fin.ext
      refine (Shape.Reduces.lift_val _ _ _ a).trans ?_
      match a with
      | ⟨0, _⟩ => rfl
      | ⟨1, _⟩ => rfl
      | ⟨2, _⟩ => rfl
    show k0_pay7 (F := Ideal) x0 x1 ((reduces_S6144x30x246_S6144x30 : S6144x30x246.Reduces [2] S6144x30).lift (ix2 r g) k) = _
    rw [e, entry_apply]
  unfold k0_pay8
  dsimp only
  rw [select_apply, cmpf_apply, cast31, ha, quot_apply]
  show Scalar.select (Ideal.cmp .ogt (quot (amax (words x1) (row x0 r) g)) (Ideal.ofBits .f32 0x00000000#32)) _ (Ideal.ofBits .f32 0x3F800000#32) = _
  rw [f_zero, f_one]
  unfold Ideal.cmp
  rw [bit_ofBool, select_bit]
  rfl

/-- The scales, entry by entry. -/
theorem scale_apply (r : Fin 6144) (g : Fin 30) :
    k0_pay10 (F := Ideal) (k0_pay6 x0 x1) (k0_pay7 x0 x1) (ix2 r g) = sc (words x1) (row x0 r) g := by
  unfold k0_pay10
  refine (shapeCast_apply _ _ (ix2 r g) (ix3 r g 0) ?_).trans (sc3_apply x1 x0 r g)
  rw [Shape.rowMajor_val_two, Shape.rowMajor_val_three]
  show (r.val * 30 + g.val) * 1 + 0 = r.val * 30 + g.val
  omega

/-- The codes. -/
theorem code_apply (r : Fin 6144) (d : Fin 3840) :
    k0_pay9 (F := Ideal) (k0_pay5 x0 x1) (k0_pay6 x0 x1) (k0_pay7 x0 x1) (ix2 r d) = code (words x1) (row x0 r) d := by
  have hd : col (blockOf d) (⟨d.val % 128, Nat.mod_lt _ (by omega)⟩ : Fin 128) = d :=
    Fin.ext (by show 128 * (d.val / 128) + d.val % 128 = d.val; omega)
  unfold k0_pay9
  refine (shapeCast_apply _ _ (ix2 r d) (ix3 r (blockOf d) (⟨d.val % 128, Nat.mod_lt _ (by omega)⟩ : Fin 128)) ?_).trans ?_
  · rw [Shape.rowMajor_val_two, Shape.rowMajor_val_three]
    show (r.val * 30 + d.val / 128) * 128 + d.val % 128 = r.val * 3840 + d.val
    omega
  · rw [truncf_apply, minimumf_apply, maximumf_apply, mulf_apply, extf_apply, z_apply, hd,
      broadcastTo_apply _ _ _ (ix3 r (blockOf d) 0) (fun a => by match a with | ⟨0, _⟩ => rfl | ⟨1, _⟩ => rfl | ⟨2, _⟩ => rfl),
      divf_apply, sc3_apply]
    show min (Ideal.ofBits .f32 0x43E00000#32) (max (Ideal.ofBits .f32 0xC3E00000#32) (_ * Ideal.div (Ideal.ofBits .f32 0x3F800000#32) _)) = _
    rw [f_448, f_n448, f_one]
    rfl

end

end Cert.ReferenceIdeal.Read

end
-- ==== Proof.RefWeight.lean ====
/-
  The reference's product read entry by entry: the full scale, the combined operands and their product are the model's.
-/
module

public import proofs.«01_k».proof.Proof.RefRead
public import Idealize.ShloMosaic.Lib.MatmulPlain

@[expose] public section

noncomputable section

namespace Cert.ReferenceIdeal.Read

open Cert.ReferenceIdeal Cert.ReferenceIdeal.Gen Idealize.ShloMosaic Idealize.ShloMosaic.ValueIdx
open Cert.Scale Cert.Model Cert.Consts

/-- The word of a column's number divided by 128, rounded down, as the program computes it. -/
def floorW (w : BitVec 32) : BitVec 32 :=
  Scalar.select (IntOp.andi
      (IntOp.cmpi .ne (IntOp.subi ((IntOp.cmpi .sgt w 0#32).setWidth 32) ((IntOp.cmpi .slt w 0#32).setWidth 32)) 1#32)
      (IntOp.cmpi .ne (IntOp.remsi .vector w 128#32) 0#32))
    (IntOp.subi (IntOp.divsi .vector w 128#32) 1#32) (IntOp.divsi .vector w 128#32)

/-- The block number of a column, as the reference computes it by a floor division of words. -/
theorem floorW_eq : ∀ d : Fin 3840, floorW (BitVec.ofNat 32 d.val) = BitVec.ofNat 32 (d.val / 128) := by
  decide +kernel

/-- The block table's entry `(k, d)`: one where `k` is the block of `d`, zero elsewhere. -/
theorem block_apply (k : Fin 30) (d : Fin 3840) :
    (cmpi .eq (select (k0_pay12) (subi (k0_pay11) (broadcast S30x3840 1#32)) (k0_pay11))
      (iota .tc S30x3840 32 [0] iota_S30x3840_d0_w32) : IVec S30x3840 1) (ix2 k d) = bit (k = blockOf d) := by
  have hi : iota .tc S30x3840 32 [1] iota_S30x3840_d1_w32 (ix2 k d) = BitVec.ofNat 32 d.val := iota_single_apply ..
  have h0 : iota .tc S30x3840 32 [0] iota_S30x3840_d0_w32 (ix2 k d) = BitVec.ofNat 32 k.val := iota_single_apply ..
  have hw : (select (k0_pay12) (subi (k0_pay11) (broadcast S30x3840 1#32)) (k0_pay11) : IVec S30x3840 32) (ix2 k d)
      = floorW (iota .tc S30x3840 32 [1] iota_S30x3840_d1_w32 (ix2 k d)) := rfl
  show IntOp.cmpi .eq ((select (k0_pay12) (subi (k0_pay11) (broadcast S30x3840 1#32)) (k0_pay11) : IVec S30x3840 32) (ix2 k d))
    (iota .tc S30x3840 32 [0] iota_S30x3840_d0_w32 (ix2 k d)) = _
  rw [hw, hi, h0, floorW_eq]
  show BitVec.ofBool (BitVec.ofNat 32 (d.val / 128) == BitVec.ofNat 32 k.val) = _
  have e : (BitVec.ofNat 32 (d.val / 128) == BitVec.ofNat 32 k.val) = decide (k = blockOf d) := by
    rw [Bool.eq_iff_iff, beq_iff_eq, decide_eq_true_iff, ← BitVec.toNat_inj, BitVec.toNat_ofNat, BitVec.toNat_ofNat, Fin.ext_iff]
    show _ ↔ k.val = d.val / 128
    omega
  rw [e, bit_ofBool]

/-- The product with the block table is a plain matrix product. -/
theorem dotE : dot_S6144x30_S30x3840_S6144x3840_1_0_0_1_n_n = DotDims.plain 6144 30 3840 := rfl
/-- The product with the one-hot table is a plain matrix product. -/
theorem dotW : dot_S1536x128_S128x3840_S1536x3840_1_0_0_1_n_n = DotDims.plain 1536 128 3840 := rfl
/-- The last product takes the second operand transposed. -/
theorem dotY : dot_S6144x3840_S1536x3840_S6144x1536_1_1_0_0_n_n = DotDims.transposedRhs 6144 3840 1536 := rfl

/-- Spreading the blocks' scales over the columns by the block table takes each column's block's scale. -/
theorem spread_apply (s : FVec Ideal S6144x30 .f32) (r : Fin 6144) (d : Fin 3840) :
    matmul (F := Ideal) dot_S6144x30_S30x3840_S6144x3840_1_0_0_1_n_n none (φ₁ := .bf16) (φ₂ := .bf16)
      (truncf .bf16 s bitsLt_bf16_f32)
      (truncf .bf16 (select (cmpi .eq (select (k0_pay12) (subi (k0_pay11) (broadcast S30x3840 1#32)) (k0_pay11))
        (iota .tc S30x3840 32 [0] iota_S30x3840_d0_w32)) (broadcast S30x3840 (Scalar.ofBits .f32 0x3F800000#32 : Ideal .f32))
        (broadcast S30x3840 (Scalar.ofBits .f32 0x00000000#32 : Ideal .f32))) bitsLt_bf16_f32)
      (constant S6144x3840 .f32 0x00000000#32) (ix2 r d) = s (ix2 r (blockOf d)) := by
  rw [dotE]
  refine (Ideal.matmul_plain_apply ..).trans ?_
  show Ideal.ofBits .f32 0x00000000#32 + _ = _
  rw [f_zero, zero_add, Finset.sum_eq_single (blockOf d)]
  · rw [truncf_apply, truncf_apply, select_apply, block_apply, select_bit, if_pos rfl]
    show _ * Ideal.ofBits .f32 0x3F800000#32 = _
    rw [f_one, mul_one]
  · intro k _ hk
    rw [truncf_apply, truncf_apply, select_apply, block_apply, select_bit, if_neg hk]
    show _ * Ideal.ofBits .f32 0x00000000#32 = _
    rw [f_zero, mul_zero]
  · exact fun h => absurd (Finset.mem_univ _) h

variable (x1 : Vec Ideal S128x1 .i32)

/-- The outlier weight laid out by the one-hot table. -/
theorem wout_apply (x2 : Vec Ideal S1536x128 .bf16) (o : Fin 1536) (d : Fin 3840) :
    matmul (F := Ideal) dot_S1536x128_S128x3840_S1536x3840_1_0_0_1_n_n none (φ₁ := .bf16) (φ₂ := .bf16) x2
      (truncf .bf16 (select (k0_pay3 (F := Ideal) x1) (broadcast S128x3840 (Scalar.ofBits .f32 0x3F800000#32 : Ideal .f32))
        (broadcast S128x3840 (Scalar.ofBits .f32 0x00000000#32 : Ideal .f32))) bitsLt_bf16_f32)
      (constant S1536x3840 .f32 0x00000000#32) (ix2 o d) = wout (words x1) (fun j => x2 (ix2 o j)) d := by
  rw [dotW]
  refine (Ideal.matmul_plain_apply ..).trans ?_
  show Ideal.ofBits .f32 0x00000000#32 + _ = _
  rw [f_zero, zero_add]
  unfold wout
  refine Finset.sum_congr rfl fun j _ => ?_
  rw [truncf_apply, select_apply, hot_apply, select_bit]
  show _ * (if _ then Ideal.ofBits .f32 0x3F800000#32 else Ideal.ofBits .f32 0x00000000#32) = _
  rw [f_one, f_zero]

/-- The weight's scales spread over its blocks. -/
theorem ws_apply (x4 : Vec Ideal S12x30 .f32) (o : Fin 1536) (d : Fin 3840) :
    shapeCast S1536x3840 (broadcastTo S12x128x30x128 (shapeCast S12x1x30x1 (shapeCast S12x1x30x1 (truncf (F := Ideal) .bf16 x4 bitsLt_bf16_f32)
      shapeCasts_S12x30_S12x1x30x1) shapeCasts_S12x1x30x1_S12x1x30x1) broadcasts_S12x1x30x1_S12x128x30x128)
      shapeCasts_S12x128x30x128_S1536x3840 (ix2 o d) = (x4 (ix2 ⟨o.val / 128, by omega⟩ (blockOf d)) : Ideal .bf16) := by
  have ho := o.isLt
  have hd := d.isLt
  refine (shapeCast_apply _ _ (ix2 o d) (ix4 (⟨o.val / 128, by omega⟩ : Fin 12) (⟨o.val % 128, Nat.mod_lt _ (by omega)⟩ : Fin 128) (blockOf d)
    (⟨d.val % 128, Nat.mod_lt _ (by omega)⟩ : Fin 128)) ?_).trans ?_
  · rw [Shape.rowMajor_val_two, Shape.rowMajor_val_four]
    show ((o.val / 128 * 128 + o.val % 128) * 30 + d.val / 128) * 128 + d.val % 128 = o.val * 3840 + d.val
    omega
  · refine (broadcastTo_apply _ _ _ (ix4 (⟨o.val / 128, by omega⟩ : Fin 12) 0 (blockOf d) 0)
      (fun a => by match a with | ⟨0, _⟩ => rfl | ⟨1, _⟩ => rfl | ⟨2, _⟩ => rfl | ⟨3, _⟩ => rfl)).trans ?_
    rw [shapeCast_id]
    refine (shapeCast_apply _ _ _ (ix2 (⟨o.val / 128, by omega⟩ : Fin 12) (blockOf d)) ?_).trans (truncf_apply ..)
    rw [Shape.rowMajor_val_two, Shape.rowMajor_val_four]
    show o.val / 128 * 30 + d.val / 128 = ((o.val / 128 * 1 + 0) * 30 + d.val / 128) * 1 + 0
    omega

/-- The product. -/
theorem y_apply (x0 : Vec Ideal S6144x3840 .bf16) (x2 : Vec Ideal S1536x128 .bf16) (x3 : Vec Ideal S1536x3840 .fp8e4m3)
    (x4 : Vec Ideal S12x30 .f32) (r : Fin 6144) (o : Fin 1536) :
    k0_pay1 (F := Ideal) (k0_pay2 x0) x2 (k0_pay3 (F := Ideal) x1) (k0_pay4 (F := Ideal) x1) (k0_pay9 (k0_pay5 x0 x1) (k0_pay6 x0 x1) (k0_pay7 x0 x1))
      (k0_pay10 (k0_pay6 x0 x1) (k0_pay7 x0 x1)) k0_pay11 k0_pay12 1#32 x4 x3 (ix2 r o)
      = y (words x1) (row x0 r) (fun j => x2 (ix2 o j)) (fun d => x3 (ix2 o d)) (fun k => x4 (ix2 ⟨o.val / 128, by omega⟩ k)) := by
  unfold k0_pay1
  dsimp only
  rw [truncf_apply, dotY]
  refine (Ideal.matmul_transposedRhs_apply ..).trans ?_
  show Ideal.ofBits .f32 0x00000000#32 + _ = _
  rw [f_zero, zero_add]
  unfold y
  refine Finset.sum_congr rfl fun d _ => ?_
  have hm : ∀ (n : ℕ) (p : Fin n) (h : S1x3840.Broadcasts ⟨2, ![n, 3840]⟩),
      broadcastTo ⟨2, ![n, 3840]⟩ (shapeCast S1x3840 (k0_pay4 (F := Ideal) x1) shapeCasts_S1x3840_S1x3840) h (ix2 p d)
        = bit (isOut (words x1) d) := by
    intro n p h
    rw [broadcastTo_1b_ab_apply, shapeCast_id, mask_apply]
  refine congrArg₂ (· * ·) ?_ ?_
  · rw [select_apply, hm, select_bit, mulf_apply, extf_apply, truncf_apply, code_apply, spread_apply, scale_apply]
    unfold k0_pay2 xc
    rw [shapeCast_id]
    rfl
  · rw [select_apply, hm, select_bit, mulf_apply, extf_apply, truncf_apply, wout_apply, ws_apply]
    rfl

end Cert.ReferenceIdeal.Read

end
-- ==== Proof.RefFold.lean ====
/-
  What the reference's result arrays hold: its one grid point takes and leaves whole arrays, so each result is the model's
  formula of the arguments.
-/
module

public import proofs.«01_k».proof.Proof.RefWeight
public import proofs.«01_k».proof.Proof.Gen.ReferenceIdeal.Value

@[expose] public section

noncomputable section

namespace Cert.ReferenceIdeal.Read

open Cert.ReferenceIdeal Cert.ReferenceIdeal.Gen Cert.ReferenceIdeal.Value Idealize.ShloMosaic Idealize.ShloMosaic.TcCoe Idealize.ShloMosaic.ValueIdx

variable (m : (ℓ : Loc nD τ sig) → Buf (Elt Ideal) ℓ)

/-- The grid's one point. -/
def t0 : Fin cfg0.N := ⟨0, by rw [show cfg0.N = 1 from N_0]; omega⟩

/-- Every window's block begins at the origin. -/
theorem idx_all : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

/-- The origin of a two-axis array. -/
theorem zz : (![0, 0] : Fin 2 → ℕ) = fun _ => 0 := by
  funext a
  match a with
  | ⟨0, _⟩ => rfl
  | ⟨1, _⟩ => rfl

/-! ## The inputs' blocks are their whole arrays -/

/-- The block of activations is the whole array. -/
theorem iblk0_eq (c : Dev nD) : (iblk m c 0 t0 : Vec Ideal S6144x3840 .bf16) = (V m c main_v0 : Vec Ideal S6144x3840 .bf16) := by
  obtain ⟨e0, e1, _⟩ := idx_all t0
  funext y
  refine congrArg (V m c main_v0 : Vec Ideal S6144x3840 .bf16) ?_
  funext a
  apply Fin.ext
  match a with
  | ⟨0, _⟩ => show win0_0.index t0 (0 : Fin 2) * 6144 + 1 * (y 0).val = (y 0).val; rw [e0]; omega
  | ⟨1, _⟩ => show win0_0.index t0 (1 : Fin 2) * 3840 + 1 * (y 1).val = (y 1).val; rw [e1]; omega

/-- The block of outlier indices is the whole array. -/
theorem iblk1_eq (c : Dev nD) : (iblk m c 1 t0 : Vec Ideal S128x1 .i32) = (V m c main_v1 : Vec Ideal S128x1 .i32) := by
  obtain ⟨_, _, e0, e1, _⟩ := idx_all t0
  funext y
  refine congrArg (V m c main_v1 : Vec Ideal S128x1 .i32) ?_
  funext a
  apply Fin.ext
  match a with
  | ⟨0, _⟩ => show win0_1.index t0 (0 : Fin 2) * 128 + 1 * (y 0).val = (y 0).val; rw [e0]; omega
  | ⟨1, _⟩ => show win0_1.index t0 (1 : Fin 2) * 1 + 1 * (y 1).val = (y 1).val; rw [e1]; omega

/-- The block of the outlier weight is the whole array. -/
theorem iblk2_eq (c : Dev nD) : (iblk m c 2 t0 : Vec Ideal S1536x128 .bf16) = (V m c main_arg2 : Vec Ideal S1536x128 .bf16) := by
  obtain ⟨_, _, _, _, e0, e1, _⟩ := idx_all t0
  funext y
  refine congrArg (V m c main_arg2 : Vec Ideal S1536x128 .bf16) ?_
  funext a
  apply Fin.ext
  match a with
  | ⟨0, _⟩ => show win0_2.index t0 (0 : Fin 2) * 1536 + 1 * (y 0).val = (y 0).val; rw [e0]; omega
  | ⟨1, _⟩ => show win0_2.index t0 (1 : Fin 2) * 128 + 1 * (y 1).val = (y 1).val; rw [e1]; omega

/-- The block of weight codes is the whole array. -/
theorem iblk3_eq (c : Dev nD) : (iblk m c 3 t0 : Vec Ideal S1536x3840 .fp8e4m3) = (V m c main_arg3 : Vec Ideal S1536x3840 .fp8e4m3) := by
  obtain ⟨_, _, _, _, _, _, e0, e1, _⟩ := idx_all t0
  funext y
  refine congrArg (V m c main_arg3 : Vec Ideal S1536x3840 .fp8e4m3) ?_
  funext a
  apply Fin.ext
  match a with
  | ⟨0, _⟩ => show win0_3.index t0 (0 : Fin 2) * 1536 + 1 * (y 0).val = (y 0).val; rw [e0]; omega
  | ⟨1, _⟩ => show win0_3.index t0 (1 : Fin 2) * 3840 + 1 * (y 1).val = (y 1).val; rw [e1]; omega

/-- The block of weight scales is the whole array. -/
theorem iblk4_eq (c : Dev nD) : (iblk m c 4 t0 : Vec Ideal S12x30 .f32) = (V m c main_arg4 : Vec Ideal S12x30 .f32) := by
  obtain ⟨_, _, _, _, _, _, _, _, e0, e1, _⟩ := idx_all t0
  funext y
  refine congrArg (V m c main_arg4 : Vec Ideal S12x30 .f32) ?_
  funext a
  apply Fin.ext
  match a with
  | ⟨0, _⟩ => show win0_4.index t0 (0 : Fin 2) * 12 + 1 * (y 0).val = (y 0).val; rw [e0]; omega
  | ⟨1, _⟩ => show win0_4.index t0 (1 : Fin 2) * 30 + 1 * (y 1).val = (y 1).val; rw [e1]; omega

/-! ## What the point leaves -/

/-- The load of the activations reads them whole. -/
theorem ld0 (x : Vec Ideal S6144x3840 .bf16) : View.ld x r0_0 = x := View.ld_unit_zero (S := S6144x3840) zz _ x
/-- The load of the outlier weight reads it whole. -/
theorem ld1 (x : Vec Ideal S1536x128 .bf16) : View.ld x r0_1 = x := View.ld_unit_zero (S := S1536x128) zz _ x
/-- The load of the outlier indices reads them whole. -/
theorem ld2 (x : Vec Ideal S128x1 .i32) : View.ld x r0_2 = x := View.ld_unit_zero (S := S128x1) zz _ x
/-- The load of the weight scales reads them whole. -/
theorem ld4 (x : Vec Ideal S12x30 .f32) : View.ld x r0_4 = x := View.ld_unit_zero (S := S12x30) zz _ x
/-- The load of the weight codes reads them whole. -/
theorem ld5 (x : Vec Ideal S1536x3840 .fp8e4m3) : View.ld x r0_5 = x := View.ld_unit_zero (S := S1536x3840) zz _ x

/-- What the point leaves in result 1, entry by entry. -/
theorem out5_apply (x0 : Vec Ideal S6144x3840 .bf16) (x1 : Vec Ideal S128x1 .i32) (x2 : Vec Ideal S1536x128 .bf16)
    (x3 : Vec Ideal S1536x3840 .fp8e4m3) (x4 : Vec Ideal S12x30 .f32) (r : Fin 6144) (o : Fin 1536) :
    out0_5 (F := Ideal) x0 x1 x2 x3 x4 (ix2 r o)
      = Model.y (words x1) (row x0 r) (fun j => x2 (ix2 o j)) (fun d => x3 (ix2 o d)) (fun k => x4 (ix2 ⟨o.val / 128, by omega⟩ k)) := by
  unfold out0_5 k0_pay15 k0_pay14 k0_pay13
  rw [View.canon_unit_zero zz]
  simp only [ld0, ld1, ld2, ld4, ld5]
  exact y_apply x1 x0 x2 x3 x4 r o

/-- What the point leaves in result 2, entry by entry. -/
theorem out6_apply (x0 : Vec Ideal S6144x3840 .bf16) (x1 : Vec Ideal S128x1 .i32) (x2 : Vec Ideal S1536x128 .bf16)
    (x3 : Vec Ideal S1536x3840 .fp8e4m3) (x4 : Vec Ideal S12x30 .f32) (r : Fin 6144) (d : Fin 3840) :
    out0_6 (F := Ideal) x0 x1 x2 x3 x4 (ix2 r d) = Model.code (words x1) (row x0 r) d := by
  unfold out0_6 k0_pay15 k0_pay14 k0_pay13
  rw [View.canon_unit_zero zz]
  simp only [ld0, ld1, ld2, ld4, ld5]
  exact code_apply x1 x0 r d

/-- What the point leaves in result 3, entry by entry. -/
theorem out7_apply (x0 : Vec Ideal S6144x3840 .bf16) (x1 : Vec Ideal S128x1 .i32) (x2 : Vec Ideal S1536x128 .bf16)
    (x3 : Vec Ideal S1536x3840 .fp8e4m3) (x4 : Vec Ideal S12x30 .f32) (r : Fin 6144) (g : Fin 30) :
    out0_7 (F := Ideal) x0 x1 x2 x3 x4 (ix2 r g) = Model.sc (words x1) (row x0 r) g := by
  unfold out0_7 k0_pay15 k0_pay14
  rw [View.canon_unit_zero zz]
  simp only [ld0, ld1, ld2, ld4, ld5]
  exact scale_apply x1 x0 r g

/-! ## The result arrays -/

/-- A whole array whose one block is `v` is `v`. -/
theorem read5 (A v : Vec Ideal S6144x1536 .bf16)
    (h : ((cfg0.win 5).blk t0).view.read (Elt Ideal) A = (cfg0.win 5).cut (grid0.coords t0) v) : A = v := by
  obtain ⟨_, _, _, _, _, _, _, _, _, _, e0, e1, _⟩ := idx_all t0
  funext y
  have hy := congrFun h y
  refine Eq.trans (congrArg A ?_) (hy.trans (congrArg v ?_))
  · funext a
    apply Fin.ext
    match a with
    | ⟨0, _⟩ => show (y 0).val = win0_5.index t0 (0 : Fin 2) * 6144 + 1 * (y 0).val; rw [e0]; omega
    | ⟨1, _⟩ => show (y 1).val = win0_5.index t0 (1 : Fin 2) * 1536 + 1 * (y 1).val; rw [e1]; omega
  · funext a
    apply Fin.ext
    rfl

/-- Result 1 is what the point leaves. -/
theorem arr5_eq (c : Dev nD) : ((dats m 0 c).arrAt 5 cfg0.N : Vec Ideal S6144x1536 .bf16)
    = out0_5 (iblk m c 0 t0) (iblk m c 1 t0) (iblk m c 2 t0) (iblk m c 3 t0) (iblk m c 4 t0) :=
  have hf : (cfg0.win 5).flush t0 = true := (by decide +kernel : ∀ t : Fin cfg0.N, (cfg0.win 5).flush t = true) t0
  read5 _ _ ((blocks5 m c t0 hf).trans (flushed5 m c t0))

/-- A whole array whose one block is `v` is `v`. -/
theorem read6 (A v : Vec Ideal S6144x3840 .fp8e4m3)
    (h : ((cfg0.win 6).blk t0).view.read (Elt Ideal) A = (cfg0.win 6).cut (grid0.coords t0) v) : A = v := by
  obtain ⟨_, _, _, _, _, _, _, _, _, _, _, _, e0, e1, _⟩ := idx_all t0
  funext y
  have hy := congrFun h y
  refine Eq.trans (congrArg A ?_) (hy.trans (congrArg v ?_))
  · funext a
    apply Fin.ext
    match a with
    | ⟨0, _⟩ => show (y 0).val = win0_6.index t0 (0 : Fin 2) * 6144 + 1 * (y 0).val; rw [e0]; omega
    | ⟨1, _⟩ => show (y 1).val = win0_6.index t0 (1 : Fin 2) * 3840 + 1 * (y 1).val; rw [e1]; omega
  · funext a
    apply Fin.ext
    rfl

/-- Result 2 is what the point leaves. -/
theorem arr6_eq (c : Dev nD) : ((dats m 0 c).arrAt 6 cfg0.N : Vec Ideal S6144x3840 .fp8e4m3)
    = out0_6 (iblk m c 0 t0) (iblk m c 1 t0) (iblk m c 2 t0) (iblk m c 3 t0) (iblk m c 4 t0) :=
  have hf : (cfg0.win 6).flush t0 = true := (by decide +kernel : ∀ t : Fin cfg0.N, (cfg0.win 6).flush t = true) t0
  read6 _ _ ((blocks6 m c t0 hf).trans (flushed6 m c t0))

/-- A whole array whose one block is `v` is `v`. -/
theorem read7 (A v : Vec Ideal S6144x30 .f32)
    (h : ((cfg0.win 7).blk t0).view.read (Elt Ideal) A = (cfg0.win 7).cut (grid0.coords t0) v) : A = v := by
  obtain ⟨_, _, _, _, _, _, _, _, _, _, _, _, _, _, e0, e1⟩ := idx_all t0
  funext y
  have hy := congrFun h y
  refine Eq.trans (congrArg A ?_) (hy.trans (congrArg v ?_))
  · funext a
    apply Fin.ext
    match a with
    | ⟨0, _⟩ => show (y 0).val = win0_7.index t0 (0 : Fin 2) * 6144 + 1 * (y 0).val; rw [e0]; omega
    | ⟨1, _⟩ => show (y 1).val = win0_7.index t0 (1 : Fin 2) * 30 + 1 * (y 1).val; rw [e1]; omega
  · funext a
    apply Fin.ext
    rfl

/-- Result 3 is what the point leaves. -/
theorem arr7_eq (c : Dev nD) : ((dats m 0 c).arrAt 7 cfg0.N : Vec Ideal S6144x30 .f32)
    = out0_7 (iblk m c 0 t0) (iblk m c 1 t0) (iblk m c 2 t0) (iblk m c 3 t0) (iblk m c 4 t0) :=
  have hf : (cfg0.win 7).flush t0 = true := (by decide +kernel : ∀ t : Fin cfg0.N, (cfg0.win 7).flush t = true) t0
  read7 _ _ ((blocks7 m c t0 hf).trans (flushed7 m c t0))

/-- The activations as the region finds them: the argument, its two leading axes as one. -/
theorem V_main_v0 (c : Dev nD) : (V m c main_v0 : Vec Ideal S6144x3840 .bf16)
    = shapeCast S6144x3840 (m ((c : Thread nD τ).loc main_arg0) : Vec Ideal S2x3072x3840 .bf16) shapeCasts_S2x3072x3840_S6144x3840 := by
  rfl

/-- The outlier indices as the region finds them: the argument, as one column. -/
theorem V_main_v1 (c : Dev nD) : (V m c main_v1 : Vec Ideal S128x1 .i32)
    = shapeCast S128x1 (m ((c : Thread nD τ).loc main_arg1) : Vec Ideal S128 .i32) shapeCasts_S128_S128x1 := by
  rfl

end Cert.ReferenceIdeal.Read

end
-- ==== Proof.RefValue.lean ====
/-
  The reference's three results as the model's formulas of the reference's arguments.
-/
module

public import proofs.«01_k».proof.Proof.RefFold

@[expose] public section

noncomputable section

namespace Cert.ReferenceIdeal.Read

open Cert.ReferenceIdeal Cert.ReferenceIdeal.Gen Cert.ReferenceIdeal.Value Idealize.ShloMosaic Idealize.ShloMosaic.TcCoe Idealize.ShloMosaic.ValueIdx

variable (m : (ℓ : Loc nD τ sig) → Buf (Elt Ideal) ℓ)

/-- The outlier indices that the body reads are the argument's. -/
theorem words_iblk (c : Dev nD) : words (iblk m c 1 t0) = fun j => (m ((c : Thread nD τ).loc main_arg1) : Vec Ideal S128 .i32) (ix1 j) := by
  funext j
  show (iblk m c 1 t0 : Vec Ideal S128x1 .i32) (ix2 j 0) = _
  rw [iblk1_eq m c, V_main_v1 m c]
  exact shapeCast_a_a1_apply _ _ j 0

/-- A row of the block of activations is the row of the argument. -/
theorem row_iblk (c : Dev nD) (r : Fin 6144) : row (iblk m c 0 t0) r
    = fun d => shapeCast S6144x3840 (m ((c : Thread nD τ).loc main_arg0) : Vec Ideal S2x3072x3840 .bf16) shapeCasts_S2x3072x3840_S6144x3840 (ix2 r d) := by
  funext d
  show (iblk m c 0 t0 : Vec Ideal S6144x3840 .bf16) (ix2 r d) = _
  rw [iblk0_eq m c, V_main_v0 m c]

/-- Result 1 of the reference, entry by entry. -/
theorem arr5_apply (c : Dev nD) (r : Fin 6144) (o : Fin 1536) :
    ((dats m 0 c).arrAt 5 cfg0.N : Vec Ideal S6144x1536 .bf16) (ix2 r o)
      = Model.y (fun j => (m ((c : Thread nD τ).loc main_arg1) : Vec Ideal S128 .i32) (ix1 j))
        (fun d => shapeCast S6144x3840 (m ((c : Thread nD τ).loc main_arg0) : Vec Ideal S2x3072x3840 .bf16) shapeCasts_S2x3072x3840_S6144x3840 (ix2 r d))
        (fun j => (m ((c : Thread nD τ).loc main_arg2) : Vec Ideal S1536x128 .bf16) (ix2 o j))
        (fun d => (m ((c : Thread nD τ).loc main_arg3) : Vec Ideal S1536x3840 .fp8e4m3) (ix2 o d))
        (fun k => (m ((c : Thread nD τ).loc main_arg4) : Vec Ideal S12x30 .f32) (ix2 ⟨o.val / 128, by omega⟩ k)) := by
  refine (congrFun (arr5_eq m c) _).trans ((out5_apply _ _ _ _ _ _ _).trans ?_)
  rw [words_iblk m c, row_iblk m c r, iblk2_eq m c, iblk3_eq m c, iblk4_eq m c, V_main_arg2 m c, V_main_arg3 m c, V_main_arg4 m c]

/-- Result 2 of the reference, entry by entry. -/
theorem arr6_apply (c : Dev nD) (r : Fin 6144) (d : Fin 3840) :
    ((dats m 0 c).arrAt 6 cfg0.N : Vec Ideal S6144x3840 .fp8e4m3) (ix2 r d)
      = Model.code (fun j => (m ((c : Thread nD τ).loc main_arg1) : Vec Ideal S128 .i32) (ix1 j))
        (fun d => shapeCast S6144x3840 (m ((c : Thread nD τ).loc main_arg0) : Vec Ideal S2x3072x3840 .bf16) shapeCasts_S2x3072x3840_S6144x3840 (ix2 r d)) d := by
  refine (congrFun (arr6_eq m c) _).trans ((out6_apply _ _ _ _ _ _ _).trans ?_)
  rw [words_iblk m c, row_iblk m c r]

/-- Result 3 of the reference, entry by entry. -/
theorem arr7_apply (c : Dev nD) (r : Fin 6144) (g : Fin 30) :
    ((dats m 0 c).arrAt 7 cfg0.N : Vec Ideal S6144x30 .f32) (ix2 r g)
      = Model.sc (fun j => (m ((c : Thread nD τ).loc main_arg1) : Vec Ideal S128 .i32) (ix1 j))
        (fun d => shapeCast S6144x3840 (m ((c : Thread nD τ).loc main_arg0) : Vec Ideal S2x3072x3840 .bf16) shapeCasts_S2x3072x3840_S6144x3840 (ix2 r d)) g := by
  refine (congrFun (arr7_eq m c) _).trans ((out7_apply _ _ _ _ _ _ _).trans ?_)
  rw [words_iblk m c, row_iblk m c r]

end Cert.ReferenceIdeal.Read

end
-- ==== Proof.Equation.lean ====
/-
  The equation: from memories that agree on the arguments, where the outlier indices increase strictly, the reference's result
  arrays are the kernel's. Both are the model's formulas of the same arguments.
-/
module

public import proofs.«01_k».proof.Proof.KValue
public import proofs.«01_k».proof.Proof.RefValue

@[expose] public section

noncomputable section

namespace Cert.Equation

open Idealize.ShloMosaic Idealize.ShloMosaic.TcCoe
open Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Result 1 of the reference is result 1 of the kernel. -/
theorem result1 (hi : Model.Inc fun j => (m ((c.tc : Thread Cert.KernelIdeal.nD Cert.KernelIdeal.τ).loc Cert.KernelIdeal.main_arg1) : Vec Ideal Cert.KernelIdeal.S128 .i32) (ix1 j))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ((Cert.ReferenceIdeal.Gen.dats m' 0 c).arrAt 5 Cert.ReferenceIdeal.cfg0.N : Vec Ideal Cert.ReferenceIdeal.S6144x1536 .bf16)
      = (Cert.KernelIdeal.Value.G5 m c : Vec Ideal Cert.KernelIdeal.S6144x1536 .bf16) := by
  funext y
  rw [eq_ix2 y]
  refine (Cert.ReferenceIdeal.Read.arr5_apply m' c (y 0) (y 1)).trans (Eq.trans ?_ (Cert.KernelIdeal.Blocks.G5_apply m c hi (y 0) (y 1)).symm)
  rw [h0, h1, h2, h3, h4]

/-- Result 2 of the reference is result 2 of the kernel. -/
theorem result2 (hi : Model.Inc fun j => (m ((c.tc : Thread Cert.KernelIdeal.nD Cert.KernelIdeal.τ).loc Cert.KernelIdeal.main_arg1) : Vec Ideal Cert.KernelIdeal.S128 .i32) (ix1 j))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ((Cert.ReferenceIdeal.Gen.dats m' 0 c).arrAt 6 Cert.ReferenceIdeal.cfg0.N : Vec Ideal Cert.ReferenceIdeal.S6144x3840 .fp8e4m3)
      = (Cert.KernelIdeal.Value.G6 m c : Vec Ideal Cert.KernelIdeal.S6144x3840 .fp8e4m3) := by
  funext y
  rw [eq_ix2 y]
  refine (Cert.ReferenceIdeal.Read.arr6_apply m' c (y 0) (y 1)).trans (Eq.trans ?_ (Cert.KernelIdeal.Blocks.G6_apply m c hi (y 0) (y 1)).symm)
  rw [h0, h1]

/-- Result 3 of the reference is result 3 of the kernel. -/
theorem result3 (hi : Model.Inc fun j => (m ((c.tc : Thread Cert.KernelIdeal.nD Cert.KernelIdeal.τ).loc Cert.KernelIdeal.main_arg1) : Vec Ideal Cert.KernelIdeal.S128 .i32) (ix1 j))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ((Cert.ReferenceIdeal.Gen.dats m' 0 c).arrAt 7 Cert.ReferenceIdeal.cfg0.N : Vec Ideal Cert.ReferenceIdeal.S6144x30 .f32)
      = (Cert.KernelIdeal.Value.G7 m c : Vec Ideal Cert.KernelIdeal.S6144x30 .f32) := by
  funext y
  rw [eq_ix2 y]
  refine (Cert.ReferenceIdeal.Read.arr7_apply m' c (y 0) (y 1)).trans (Eq.trans ?_ (Cert.KernelIdeal.Blocks.G7_apply m c hi (y 0) (y 1)).symm)
  rw [h0, h1]

end Cert.Equation

end
-- ==== Proof.lean ====
/- The proof of the claims: the frames of the kernel, of its real reading and of the reference; the ledger; and the equality of
   the two real readings on all three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.PreFacts
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Where the outlier indices increase strictly, the real readings of the kernel and of the reference end with equal results. -/
theorem algebraic : Cert.algebraic_KernelIdeal_ReferenceIdeal_pre_increasing := by
  intro m g m' g' hp ha
  refine ⟨fun c => Cert.KernelIdeal.Value.G5 m c, fun c => Cert.KernelIdeal.Value.G6 m c, fun c => Cert.KernelIdeal.Value.G7 m c,
    Cert.KernelIdeal.Value.run m g, ?_⟩
  refine (θ_run _ _ _).mono (fun r h c => ?_) (Cert.ReferenceIdeal.Value.run_blocks m' g')
  obtain ⟨r0, r1, r2, rest⟩ := h c
  obtain ⟨a0, a1, a2, a3, a4⟩ := ha c
  have hi := Cert.Pre_increasing.Read.inc_of_fn _ _ _ _ _ (hp c)
  exact ⟨r0.trans (Cert.Equation.result1 m m' c hi a0 a1 a2 a3 a4), r1.trans (Cert.Equation.result2 m m' c hi a0 a1),
    r2.trans (Cert.Equation.result3 m m' c hi a0 a1), rest⟩

/-- The frames, the (empty) ledger between the printed kernel and its real reading, and the equality of the results. -/
theorem claim : Cert.Claim := ⟨Cert.Kernel.Gen.facts, Cert.KernelIdeal.Gen.facts, Cert.ReferenceIdeal.Gen.facts,
  Cert.Pre_increasing.Read.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, trivial, algebraic⟩

end Cert.Proof

end
